-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_inputs [hPre_finite_inputs : Cert.Pre_finite_inputs.Facts] (m : (ℓ : Loc Cert.PostIdeal.nD Cert.PostIdeal.τ Cert.PostIdeal.sig) → Buf (Elt Ideal) ℓ) : Prop :=
  ∀ c : Dev Cert.PostIdeal.nD,
    (Cert.Pre_finite_inputs.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13)) (m ((c.tc : Thread Cert.PostIdeal.nD Cert.PostIdeal.τ).loc Cert.PostIdeal.main_arg14)) (m ((c.tc : Thread Cert.PostIdeal.nD Cert.PostIdeal.τ).loc Cert.PostIdeal.main_arg15)) (m ((c.tc : Thread Cert.PostIdeal.nD Cert.PostIdeal.τ).loc Cert.PostIdeal.main_arg16)) (m ((c.tc : Thread Cert.PostIdeal.nD Cert.PostIdeal.τ).loc Cert.PostIdeal.main_arg17))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_inputs [hPre_finite_inputs : Cert.Pre_finite_inputs.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_inputs.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11)) (m ((c.tc : Thread Cert.PostRefIdeal.nD Cert.PostRefIdeal.τ).loc Cert.PostRefIdeal.main_arg12)) (m ((c.tc : Thread Cert.PostRefIdeal.nD Cert.PostRefIdeal.τ).loc Cert.PostRefIdeal.main_arg13)) (m ((c.tc : Thread Cert.PostRefIdeal.nD Cert.PostRefIdeal.τ).loc Cert.PostRefIdeal.main_arg14)) (m ((c.tc : Thread Cert.PostRefIdeal.nD Cert.PostRefIdeal.τ).loc Cert.PostRefIdeal.main_arg15)) (m ((c.tc : Thread Cert.PostRefIdeal.nD Cert.PostRefIdeal.τ).loc Cert.PostRefIdeal.main_arg16)) (m ((c.tc : Thread Cert.PostRefIdeal.nD Cert.PostRefIdeal.τ).loc Cert.PostRefIdeal.main_arg17))) = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14)
      ∧ r.2.mem ((c.tc : Thread Cert.Post.nD Cert.Post.τ).loc Cert.Post.main_arg15) = m ((c.tc : Thread Cert.Post.nD Cert.Post.τ).loc Cert.Post.main_arg15)
      ∧ r.2.mem ((c.tc : Thread Cert.Post.nD Cert.Post.τ).loc Cert.Post.main_arg16) = m ((c.tc : Thread Cert.Post.nD Cert.Post.τ).loc Cert.Post.main_arg16)
      ∧ r.2.mem ((c.tc : Thread Cert.Post.nD Cert.Post.τ).loc Cert.Post.main_arg17) = m ((c.tc : Thread Cert.Post.nD Cert.Post.τ).loc Cert.Post.main_arg17))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
      ∧ r.2.mem ((c.tc : Thread Cert.PostIdeal.nD Cert.PostIdeal.τ).loc Cert.PostIdeal.main_arg16) = m ((c.tc : Thread Cert.PostIdeal.nD Cert.PostIdeal.τ).loc Cert.PostIdeal.main_arg16)
      ∧ r.2.mem ((c.tc : Thread Cert.PostIdeal.nD Cert.PostIdeal.τ).loc Cert.PostIdeal.main_arg17) = m ((c.tc : Thread Cert.PostIdeal.nD Cert.PostIdeal.τ).loc Cert.PostIdeal.main_arg17))
      ∧ r.2.sem = fun _ => 0)

def quiescent_PostIdeal_pre_finite_inputs [hPostIdeal : Cert.PostIdeal.Facts] [hPre_finite_inputs : Cert.Pre_finite_inputs.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_inputs m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
      ∧ r.2.mem ((c.tc : Thread Cert.PostIdeal.nD Cert.PostIdeal.τ).loc Cert.PostIdeal.main_arg16) = m ((c.tc : Thread Cert.PostIdeal.nD Cert.PostIdeal.τ).loc Cert.PostIdeal.main_arg16)
      ∧ r.2.mem ((c.tc : Thread Cert.PostIdeal.nD Cert.PostIdeal.τ).loc Cert.PostIdeal.main_arg17) = m ((c.tc : Thread Cert.PostIdeal.nD Cert.PostIdeal.τ).loc Cert.PostIdeal.main_arg17))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14)
      ∧ r.2.mem ((c.tc : Thread Cert.PostRefIdeal.nD Cert.PostRefIdeal.τ).loc Cert.PostRefIdeal.main_arg15) = m ((c.tc : Thread Cert.PostRefIdeal.nD Cert.PostRefIdeal.τ).loc Cert.PostRefIdeal.main_arg15)
      ∧ r.2.mem ((c.tc : Thread Cert.PostRefIdeal.nD Cert.PostRefIdeal.τ).loc Cert.PostRefIdeal.main_arg16) = m ((c.tc : Thread Cert.PostRefIdeal.nD Cert.PostRefIdeal.τ).loc Cert.PostRefIdeal.main_arg16)
      ∧ r.2.mem ((c.tc : Thread Cert.PostRefIdeal.nD Cert.PostRefIdeal.τ).loc Cert.PostRefIdeal.main_arg17) = m ((c.tc : Thread Cert.PostRefIdeal.nD Cert.PostRefIdeal.τ).loc Cert.PostRefIdeal.main_arg17))
      ∧ r.2.sem = fun _ => 0)

def quiescent_PostRefIdeal_pre_finite_inputs [hPostRefIdeal : Cert.PostRefIdeal.Facts] [hPre_finite_inputs : Cert.Pre_finite_inputs.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_inputs m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14)
      ∧ r.2.mem ((c.tc : Thread Cert.PostRefIdeal.nD Cert.PostRefIdeal.τ).loc Cert.PostRefIdeal.main_arg15) = m ((c.tc : Thread Cert.PostRefIdeal.nD Cert.PostRefIdeal.τ).loc Cert.PostRefIdeal.main_arg15)
      ∧ r.2.mem ((c.tc : Thread Cert.PostRefIdeal.nD Cert.PostRefIdeal.τ).loc Cert.PostRefIdeal.main_arg16) = m ((c.tc : Thread Cert.PostRefIdeal.nD Cert.PostRefIdeal.τ).loc Cert.PostRefIdeal.main_arg16)
      ∧ r.2.mem ((c.tc : Thread Cert.PostRefIdeal.nD Cert.PostRefIdeal.τ).loc Cert.PostRefIdeal.main_arg17) = m ((c.tc : Thread Cert.PostRefIdeal.nD Cert.PostRefIdeal.τ).loc Cert.PostRefIdeal.main_arg17))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3))
      ∧ r.2.sem = fun _ => 0)

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v12_0)) (v1 : (c : Dev Cert.InprojIdeal.nD) → Buf (Elt Ideal) ((c.tc : Thread Cert.InprojIdeal.nD Cert.InprojIdeal.τ).loc Cert.InprojIdeal.main_v12_1)) (v2 : (c : Dev Cert.InprojIdeal.nD) → Buf (Elt Ideal) ((c.tc : Thread Cert.InprojIdeal.nD Cert.InprojIdeal.τ).loc Cert.InprojIdeal.main_v12_2)) (v3 : (c : Dev Cert.InprojIdeal.nD) → Buf (Elt Ideal) ((c.tc : Thread Cert.InprojIdeal.nD Cert.InprojIdeal.τ).loc Cert.InprojIdeal.main_v12_3)) (v4 : (c : Dev Cert.InprojIdeal.nD) → Buf (Elt Ideal) ((c.tc : Thread Cert.InprojIdeal.nD Cert.InprojIdeal.τ).loc Cert.InprojIdeal.main_v12_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v12_0) = v0 c
          ∧ r.2.mem ((c.tc : Thread Cert.InprojIdeal.nD Cert.InprojIdeal.τ).loc Cert.InprojIdeal.main_v12_1) = v1 c
          ∧ r.2.mem ((c.tc : Thread Cert.InprojIdeal.nD Cert.InprojIdeal.τ).loc Cert.InprojIdeal.main_v12_2) = v2 c
          ∧ r.2.mem ((c.tc : Thread Cert.InprojIdeal.nD Cert.InprojIdeal.τ).loc Cert.InprojIdeal.main_v12_3) = v3 c
          ∧ r.2.mem ((c.tc : Thread Cert.InprojIdeal.nD Cert.InprojIdeal.τ).loc Cert.InprojIdeal.main_v12_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v81) = v0 c
          ∧ r.2.mem ((c.tc : Thread Cert.InprojRefIdeal.nD Cert.InprojRefIdeal.τ).loc Cert.InprojRefIdeal.main_v85) = v1 c
          ∧ r.2.mem ((c.tc : Thread Cert.InprojRefIdeal.nD Cert.InprojRefIdeal.τ).loc Cert.InprojRefIdeal.main_v87) = v2 c
          ∧ r.2.mem ((c.tc : Thread Cert.InprojRefIdeal.nD Cert.InprojRefIdeal.τ).loc Cert.InprojRefIdeal.main_v89) = v3 c
          ∧ r.2.mem ((c.tc : Thread Cert.InprojRefIdeal.nD Cert.InprojRefIdeal.τ).loc Cert.InprojRefIdeal.main_v90) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def preserves_Post_PostIdeal : Prop :=
  True

def algebraic_PostIdeal_PostRefIdeal_pre_finite_inputs [hPostIdeal : Cert.PostIdeal.Facts] [hPostRefIdeal : Cert.PostRefIdeal.Facts] [hPre_finite_inputs : Cert.Pre_finite_inputs.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_inputs m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)
      ∧ m' ((c.tc : Thread Cert.PostRefIdeal.nD Cert.PostRefIdeal.τ).loc Cert.PostRefIdeal.main_arg14) = m ((c.tc : Thread Cert.PostIdeal.nD Cert.PostIdeal.τ).loc Cert.PostIdeal.main_arg14)
      ∧ m' ((c.tc : Thread Cert.PostRefIdeal.nD Cert.PostRefIdeal.τ).loc Cert.PostRefIdeal.main_arg15) = m ((c.tc : Thread Cert.PostIdeal.nD Cert.PostIdeal.τ).loc Cert.PostIdeal.main_arg15)
      ∧ m' ((c.tc : Thread Cert.PostRefIdeal.nD Cert.PostRefIdeal.τ).loc Cert.PostRefIdeal.main_arg16) = m ((c.tc : Thread Cert.PostIdeal.nD Cert.PostIdeal.τ).loc Cert.PostIdeal.main_arg16)
      ∧ m' ((c.tc : Thread Cert.PostRefIdeal.nD Cert.PostRefIdeal.τ).loc Cert.PostRefIdeal.main_arg17) = m ((c.tc : Thread Cert.PostIdeal.nD Cert.PostIdeal.τ).loc Cert.PostIdeal.main_arg17)) →
    ∃ (v0 : (c : Dev Cert.PostIdeal.nD) → Buf (Elt Ideal) ((c.tc : Thread Cert.PostIdeal.nD Cert.PostIdeal.τ).loc Cert.PostIdeal.main_v35_0)) (v1 : (c : Dev Cert.PostIdeal.nD) → Buf (Elt Ideal) ((c.tc : Thread Cert.PostIdeal.nD Cert.PostIdeal.τ).loc Cert.PostIdeal.main_v35_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v35_0) = v0 c
          ∧ r.2.mem ((c.tc : Thread Cert.PostIdeal.nD Cert.PostIdeal.τ).loc Cert.PostIdeal.main_v35_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
          ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
          ∧ r.2.mem ((c.tc : Thread Cert.PostIdeal.nD Cert.PostIdeal.τ).loc Cert.PostIdeal.main_arg16) = m ((c.tc : Thread Cert.PostIdeal.nD Cert.PostIdeal.τ).loc Cert.PostIdeal.main_arg16)
          ∧ r.2.mem ((c.tc : Thread Cert.PostIdeal.nD Cert.PostIdeal.τ).loc Cert.PostIdeal.main_arg17) = m ((c.tc : Thread Cert.PostIdeal.nD Cert.PostIdeal.τ).loc Cert.PostIdeal.main_arg17))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v102) = v0 c
          ∧ r.2.mem ((c.tc : Thread Cert.PostRefIdeal.nD Cert.PostRefIdeal.τ).loc Cert.PostRefIdeal.main_v103) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13)
          ∧ r.2.mem ((c.tc : Thread Cert.PostRefIdeal.nD Cert.PostRefIdeal.τ).loc Cert.PostRefIdeal.main_arg14) = m' ((c.tc : Thread Cert.PostRefIdeal.nD Cert.PostRefIdeal.τ).loc Cert.PostRefIdeal.main_arg14)
          ∧ r.2.mem ((c.tc : Thread Cert.PostRefIdeal.nD Cert.PostRefIdeal.τ).loc Cert.PostRefIdeal.main_arg15) = m' ((c.tc : Thread Cert.PostRefIdeal.nD Cert.PostRefIdeal.τ).loc Cert.PostRefIdeal.main_arg15)
          ∧ r.2.mem ((c.tc : Thread Cert.PostRefIdeal.nD Cert.PostRefIdeal.τ).loc Cert.PostRefIdeal.main_arg16) = m' ((c.tc : Thread Cert.PostRefIdeal.nD Cert.PostRefIdeal.τ).loc Cert.PostRefIdeal.main_arg16)
          ∧ r.2.mem ((c.tc : Thread Cert.PostRefIdeal.nD Cert.PostRefIdeal.τ).loc Cert.PostRefIdeal.main_arg17) = m' ((c.tc : Thread Cert.PostRefIdeal.nD Cert.PostRefIdeal.τ).loc Cert.PostRefIdeal.main_arg17))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v5)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v5) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v17) = v0 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v24) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3))

def Claim : Prop :=
  ∃ (hInproj : Cert.Inproj.Facts) (hInprojIdeal : Cert.InprojIdeal.Facts) (hInprojRefIdeal : Cert.InprojRefIdeal.Facts) (hPost : Cert.Post.Facts) (hPostIdeal : Cert.PostIdeal.Facts) (hPostRefIdeal : Cert.PostRefIdeal.Facts) (hMemkv : Cert.Memkv.Facts) (hMemkvIdeal : Cert.MemkvIdeal.Facts) (hMemkvRefIdeal : Cert.MemkvRefIdeal.Facts) (hCombine : Cert.Combine.Facts) (hCombineIdeal : Cert.CombineIdeal.Facts) (hCombineRefIdeal : Cert.CombineRefIdeal.Facts) (hPre_finite_inputs : Cert.Pre_finite_inputs.Facts),
    quiescent_Inproj (hInproj := hInproj)
    ∧ quiescent_InprojIdeal (hInprojIdeal := hInprojIdeal)
    ∧ quiescent_InprojRefIdeal (hInprojRefIdeal := hInprojRefIdeal)
    ∧ quiescent_Post (hPost := hPost)
    ∧ quiescent_PostIdeal (hPostIdeal := hPostIdeal)
    ∧ quiescent_PostIdeal_pre_finite_inputs (hPostIdeal := hPostIdeal) (hPre_finite_inputs := hPre_finite_inputs)
    ∧ quiescent_PostRefIdeal (hPostRefIdeal := hPostRefIdeal)
    ∧ quiescent_PostRefIdeal_pre_finite_inputs (hPostRefIdeal := hPostRefIdeal) (hPre_finite_inputs := hPre_finite_inputs)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Combine (hCombine := hCombine)
    ∧ quiescent_CombineIdeal (hCombineIdeal := hCombineIdeal)
    ∧ quiescent_CombineRefIdeal (hCombineRefIdeal := hCombineRefIdeal)
    ∧ preserves_Inproj_InprojIdeal
    ∧ algebraic_InprojIdeal_InprojRefIdeal (hInprojIdeal := hInprojIdeal) (hInprojRefIdeal := hInprojRefIdeal)
    ∧ preserves_Post_PostIdeal
    ∧ algebraic_PostIdeal_PostRefIdeal_pre_finite_inputs (hPostIdeal := hPostIdeal) (hPostRefIdeal := hPostRefIdeal) (hPre_finite_inputs := hPre_finite_inputs)
    ∧ preserves_Memkv_MemkvIdeal
    ∧ algebraic_MemkvIdeal_MemkvRefIdeal (hMemkvIdeal := hMemkvIdeal) (hMemkvRefIdeal := hMemkvRefIdeal)
    ∧ preserves_Combine_CombineIdeal
    ∧ algebraic_CombineIdeal_CombineRefIdeal (hCombineIdeal := hCombineIdeal) (hCombineRefIdeal := hCombineRefIdeal)
-- ==== Pre_finite_inputs.lean ====
abbrev S8x4096x1024 : Shape := ⟨3, ![8, 4096, 1024]⟩
abbrev S32768x1024 : Shape := ⟨2, ![32768, 1024]⟩
abbrev S2048x1024 : Shape := ⟨2, ![2048, 1024]⟩
abbrev S1x1024 : Shape := ⟨2, ![1, 1024]⟩
abbrev S1x1024x2048 : Shape := ⟨3, ![1, 1024, 2048]⟩
abbrev S1x2048 : Shape := ⟨2, ![1, 2048]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1x1024x8 : Shape := ⟨3, ![1, 1024, 8]⟩
abbrev S1x8 : Shape := ⟨2, ![1, 8]⟩
abbrev S1x1024x64 : Shape := ⟨3, ![1, 1024, 64]⟩
abbrev S1x64 : Shape := ⟨2, ![1, 64]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024x512 : S_.BroadcastsInDim S1x1024x512 (![] : Fin 0 → Fin S1x1024x512.rank)
  reducesTo_S1x1024x512_S_d0_1_2 : S1x1024x512.ReducesTo [0, 1, 2] S_

variable [Facts]

def fn_part3 {F : FTy → Type} [FloatOps F] (main_arg10 : FVec F S1x1024 .f32) (main_arg11 : FVec F S1x1024x512 .f32) (main_v51 : IVec S_ 1) : IVec S_ 1 :=
  let main_v52 : FVec F S1x1024 .f32 := Host.absf main_arg10
  let main_cst_18 : FVec F S_ .f32 := constant S_ .f32 0x7F800000#32
  let main_v53 : FVec F S1x1024 .f32 := broadcastInDim S1x1024 ![] bcast_S_S1x1024 main_cst_18
  let main_v54 : IVec S1x1024 1 := cmpf .olt main_v52 main_v53
  let main_c_19 : IVec S_ 1 := constantI S_ 1 1#1
  let main_v55 : IVec S_ 1 := (fun x v => Host.reduce IntOp.andi x v reducesTo_S1x1024_S_d0_1 h_S_) main_v54 main_c_19
  let main_v56 : IVec S_ 1 := andi main_v51 main_v55
  let main_v57 : FVec F S1x1024x512 .f32 := Host.absf main_arg11
  let main_cst_20 : FVec F S_ .f32 := constant S_ .f32 0x7F800000#32
  let main_v58 : FVec F S1x1024x512 .f32 := broadcastInDim S1x1024x512 ![] bcast_S_S1x1024x512 main_cst_20
  let main_v59 : IVec S1x1024x512 1 := cmpf .olt main_v57 main_v58
  let main_c_21 : IVec S_ 1 := constantI S_ 1 1#1
  let main_v60 : IVec S_ 1 := (fun x v => Host.reduce IntOp.andi x v reducesTo_S1x1024x512_S_d0_1_2 h_S_) main_v59 main_c_21
  let main_v61 : IVec S_ 1 := andi main_v56 main_v60
  main_v61

def fn_part2 {F : FTy → Type} [FloatOps F] (main_arg7 : FVec F S1x1024x1024 .f32) (main_arg8 : FVec F S1x1024x1024 .f32) (main_arg9 : FVec F S1x1024x1024 .f32) (main_arg10 : FVec F S1x1024 .f32) (main_arg11 : FVec F S1x1024x512 .f32) (main_v31 : IVec S_ 1) (main_v34 : IVec S1x2048 1) : IVec S_ 1 :=
  let main_c_11 : IVec S_ 1 := constantI S_ 1 1#1
  let main_v35 : IVec S_ 1 := (fun x v => Host.reduce IntOp.andi x v reducesTo_S1x2048_S_d0_1 h_S_) main_v34 main_c_11
  let main_v36 : IVec S_ 1 := andi main_v31 main_v35
  let main_v37 : FVec F S1x1024x1024 .f32 := Host.absf main_arg7
  let main_cst_12 : FVec F S_ .f32 := constant S_ .f32 0x7F800000#32
  let main_v38 : FVec F S1x1024x1024 .f32 := broadcastInDim S1x1024x1024 ![] bcast_S_S1x1024x1024 main_cst_12
  let main_v39 : IVec S1x1024x1024 1 := cmpf .olt main_v37 main_v38
  let main_c_13 : IVec S_ 1 := constantI S_ 1 1#1
  let main_v40 : IVec S_ 1 := (fun x v => Host.reduce IntOp.andi x v reducesTo_S1x1024x1024_S_d0_1_2 h_S_) main_v39 main_c_13
  let main_v41 : IVec S_ 1 := andi main_v36 main_v40
  let main_v42 : FVec F S1x1024x1024 .f32 := Host.absf main_arg8
  let main_cst_14 : FVec F S_ .f32 := constant S_ .f32 0x7F800000#32
  let main_v43 : FVec F S1x1024x1024 .f32 := broadcastInDim S1x1024x1024 ![] bcast_S_S1x1024x1024 main_cst_14
  let main_v44 : IVec S1x1024x1024 1 := cmpf .olt main_v42 main_v43
  let main_c_15 : IVec S_ 1 := constantI S_ 1 1#1
  let main_v45 : IVec S_ 1 := (fun x v => Host.reduce IntOp.andi x v reducesTo_S1x1024x1024_S_d0_1_2 h_S_) main_v44 main_c_15
  let main_v46 : IVec S_ 1 := andi main_v41 main_v45
  let main_v47 : FVec F S1x1024x1024 .f32 := Host.absf main_arg9
  let main_cst_16 : FVec F S_ .f32 := constant S_ .f32 0x7F800000#32
  let main_v48 : FVec F S1x1024x1024 .f32 := broadcastInDim S1x1024x1024 ![] bcast_S_S1x1024x1024 main_cst_16
  let main_v49 : IVec S1x1024x1024 1 := cmpf .olt main_v47 main_v48
  let main_c_17 : IVec S_ 1 := constantI S_ 1 1#1
  let main_v50 : IVec S_ 1 := (fun x v => Host.reduce IntOp.andi x v reducesTo_S1x1024x1024_S_d0_1_2 h_S_) main_v49 main_c_17
  let main_v51 : IVec S_ 1 := andi main_v46 main_v50
  fn_part3 (F := F) main_arg10 main_arg11 main_v51

def fn_part1 {F : FTy → Type} [FloatOps F] (main_arg4 : FVec F S1x1024 .f32) (main_arg5 : FVec F S1x1024x2048 .f32) (main_arg6 : FVec F S1x2048 .f32) (main_arg7 : FVec F S1x1024x1024 .f32) (main_arg8 : FVec F S1x1024x1024 .f32) (main_arg9 : FVec F S1x1024x1024 .f32) (main_arg10 : FVec F S1x1024 .f32) (main_arg11 : FVec F S1x1024x512 .f32) (main_v15 : IVec S_ 1) (main_v17 : FVec F S2048x1024 .f32) : IVec S_ 1 :=
  let main_cst_4 : FVec F S_ .f32 := constant S_ .f32 0x7F800000#32
  let main_v18 : FVec F S2048x1024 .f32 := broadcastInDim S2048x1024 ![] bcast_S_S2048x1024 main_cst_4
  let main_v19 : IVec S2048x1024 1 := cmpf .olt main_v17 main_v18
  let main_c_5 : IVec S_ 1 := constantI S_ 1 1#1
  let main_v20 : IVec S_ 1 := (fun x v => Host.reduce IntOp.andi x v reducesTo_S2048x1024_S_d0_1 h_S_) main_v19 main_c_5
  let main_v21 : IVec S_ 1 := andi main_v15 main_v20
  let main_v22 : FVec F S1x1024 .f32 := Host.absf main_arg4
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  let main_v27 : FVec F S1x1024x2048 .f32 := Host.absf main_arg5
  let main_cst_8 : FVec F S_ .f32 := constant S_ .f32 0x7F800000#32
  let main_v28 : FVec F S1x1024x2048 .f32 := broadcastInDim S1x1024x2048 ![] bcast_S_S1x1024x2048 main_cst_8
  let main_v29 : IVec S1x1024x2048 1 := cmpf .olt main_v27 main_v28
  let main_c_9 : IVec S_ 1 := constantI S_ 1 1#1
  let main_v30 : IVec S_ 1 := (fun x v => Host.reduce IntOp.andi x v reducesTo_S1x1024x2048_S_d0_1_2 h_S_) main_v29 main_c_9
  let main_v31 : IVec S_ 1 := andi main_v26 main_v30
  let main_v32 : FVec F S1x2048 .f32 := Host.absf main_arg6
  let main_cst_10 : FVec F S_ .f32 := constant S_ .f32 0x7F800000#32
  let main_v33 : FVec F S1x2048 .f32 := broadcastInDim S1x2048 ![] bcast_S_S1x2048 main_cst_10
  let main_v34 : IVec S1x2048 1 := cmpf .olt main_v32 main_v33
  fn_part2 (F := F) main_arg7 main_arg8 main_arg9 main_arg10 main_arg11 main_v31 main_v34

def fn {F : FTy → Type} [FloatOps F] (main_arg0 : FVec F S8x4096x1024 .f32) (main_arg1 : FVec F S32768x1024 .bf16) (main_arg2 : FVec F S32768x1024 .bf16) (main_arg3 : FVec F S2048x1024 .bf16) (main_arg4 : FVec F S1x1024 .f32) (main_arg5 : FVec F S1x1024x2048 .f32) (main_arg6 : FVec F S1x2048 .f32) (main_arg7 : FVec F S1x1024x1024 .f32) (main_arg8 : FVec F S1x1024x1024 .f32) (main_arg9 : FVec F S1x1024x1024 .f32) (main_arg10 : FVec F S1x1024 .f32) (main_arg11 : FVec F S1x1024x512 .f32) (main_arg12 : FVec F S1x512x1024 .f32) (main_arg13 : FVec F S1x1024 .f32) (main_arg14 : FVec F S1x1024x8 .f32) (main_arg15 : FVec F S1x8 .f32) (main_arg16 : FVec F S1x1024x64 .f32) (main_arg17 : FVec F S1x64 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S32768x1024 .f32 := (extf .f32 · bitsLt_bf16_f32) main_arg1
  let main_v5 : FVec F S32768x1024 .f32 := Host.absf main_v4
  let main_cst_0 : FVec F S_ .f32 := constant S_ .f32 0x7F800000#32
  let main_v6 : FVec F S32768x1024 .f32 := broadcastInDim S32768x1024 ![] bcast_S_S32768x1024 main_cst_0
  let main_v7 : IVec S32768x1024 1 := cmpf .olt main_v5 main_v6
  let main_c_1 : IVec S_ 1 := constantI S_ 1 1#1
  let main_v8 : IVec S_ 1 := (fun x v => Host.reduce IntOp.andi x v reducesTo_S32768x1024_S_d0_1 h_S_) main_v7 main_c_1
  let main_v9 : IVec S_ 1 := andi main_v3 main_v8
  let main_v10 : FVec F S32768x1024 .f32 := (extf .f32 · bitsLt_bf16_f32) main_arg2
  let main_v11 : FVec F S32768x1024 .f32 := Host.absf main_v10
  let main_cst_2 : FVec F S_ .f32 := constant S_ .f32 0x7F800000#32
  let main_v12 : FVec F S32768x1024 .f32 := broadcastInDim S32768x1024 ![] bcast_S_S32768x1024 main_cst_2
  let main_v13 : IVec S32768x1024 1 := cmpf .olt main_v11 main_v12
  let main_c_3 : IVec S_ 1 := constantI S_ 1 1#1
  let main_v14 : IVec S_ 1 := (fun x v => Host.reduce IntOp.andi x v reducesTo_S32768x1024_S_d0_1 h_S_) main_v13 main_c_3
  let main_v15 : IVec S_ 1 := andi main_v9 main_v14
  let main_v16 : FVec F S2048x1024 .f32 := (extf .f32 · bitsLt_bf16_f32) main_arg3
  let main_v17 : FVec F S2048x1024 .f32 := Host.absf main_v16
  fn_part1 (F := F) main_arg4 main_arg5 main_arg6 main_arg7 main_arg8 main_arg9 main_arg10 main_arg11 main_v15 main_v17
-- ==== Inproj.lean ====
abbrev S8x4096x1024 : Shape := ⟨3, ![8, 4096, 1024]⟩
abbrev S1x1024 : Shape := ⟨2, ![1, 1024]⟩
abbrev S1x1024x5120 : Shape := ⟨3, ![1, 1024, 5120]⟩
abbrev S1x8x128x128 : Shape := ⟨4, ![1, 8, 128, 128]⟩
abbrev S1x8x128 : Shape := ⟨3, ![1, 8, 128]⟩
abbrev S32768x1024 : Shape := ⟨2, ![32768, 1024]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1024 : Shape := ⟨1, ![1024]⟩
abbrev S1024x5120 : Shape := ⟨2, ![1024, 5120]⟩
abbrev S8x128x128 : Shape := ⟨3, ![8, 128, 128]⟩
abbrev S64x2x1024 : Shape := ⟨3, ![64, 2, 1024]⟩
abbrev S512x1024 : Shape := ⟨2, ![512, 1024]⟩
abbrev S1x2x1024 : Shape := ⟨3, ![1, 2, 1024]⟩
abbrev S512 : Shape := ⟨1, ![512]⟩
abbrev S512x1 : Shape := ⟨2, ![512, 1]⟩
abbrev S1024x1024 : Shape := ⟨2, ![1024, 1024]⟩
abbrev S128x128 : Shape := ⟨2, ![128, 128]⟩
abbrev S1x128x128 : Shape := ⟨3, ![1, 128, 128]⟩
abbrev S256x1024 : Shape := ⟨2, ![256, 1024]⟩
abbrev S1x1x1024 : Shape := ⟨3, ![1, 1, 1024]⟩

abbrev nBuf : Space → Nat
  | .hbm => 23
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5120, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S32768x1024, .f32⟩
  | .hbm, ⟨7, _⟩ => ⟨S8x128, .f32⟩
  | .hbm, ⟨8, _⟩ => ⟨S128x8, .f32⟩
  | .hbm, ⟨9, _⟩ => ⟨S128x8x128, .f32⟩
  | .hbm, ⟨10, _⟩ => ⟨S128x1024, .f32⟩
  | .hbm, ⟨11, _⟩ => ⟨S1024, .f32⟩
  | .hbm, ⟨12, _⟩ => ⟨S1x1024, .f32⟩
  | .hbm, ⟨13, _⟩ => ⟨S1024x5120, .f32⟩
  | .hbm, ⟨14, _⟩ => ⟨S1024x5120, .bf16⟩
  | .hbm, ⟨15, _⟩ => ⟨S1024, .f32⟩
  | .hbm, ⟨16, _⟩ => ⟨S1x1024, .f32⟩
  | .hbm, ⟨17, _⟩ => ⟨S8x128x128, .f32⟩
  | .hbm, ⟨18, _⟩ => ⟨S32768x1024, .bf16⟩
  | .hbm, ⟨19, _⟩ => ⟨S32768x1024, .bf16⟩
  | .hbm, ⟨20, _⟩ => ⟨S32768x1024, .bf16⟩
  | .hbm, ⟨21, _⟩ => ⟨S32768x1024, .bf16⟩
  | .hbm, ⟨22, _⟩ => ⟨S64x2x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S1x1024, .f32⟩
  | .local _ .vmem, ⟨5, _⟩ => ⟨S8x128x128, .f32⟩
  | .local _ .vmem, ⟨6, _⟩ => ⟨S128x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x2x1024, .f32⟩
  | .local _ .vmem, ⟨16, _⟩ => ⟨S1x2x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojRefIdeal.lean ====
abbrev S8x4096x1024 : Shape := ⟨3, ![8, 4096, 1024]⟩
abbrev S1x1024 : Shape := ⟨2, ![1, 1024]⟩
abbrev S1x1024x5120 : Shape := ⟨3, ![1, 1024, 5120]⟩
abbrev S1x8x128x128 : Shape := ⟨4, ![1, 8, 128, 128]⟩
abbrev S1x8x128 : Shape := ⟨3, ![1, 8, 128]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5120 : Shape := ⟨2, ![1024, 5120]⟩
abbrev S8x4096x5120 : Shape := ⟨3, ![8, 4096, 5120]⟩
abbrev S8x32x128x8x128 : Shape := ⟨5, ![8, 32, 128, 8, 128]⟩
abbrev S128x128 : Shape := ⟨2, ![128, 128]⟩
abbrev S1x128x128 : Shape := ⟨3, ![1, 128, 128]⟩
abbrev S8x128x128 : Shape := ⟨3, ![8, 128, 128]⟩
abbrev S8x8x32x128x128 : Shape := ⟨5, ![8, 8, 32, 128, 128]⟩
abbrev S8x128 : Shape := ⟨2, ![8, 128]⟩
abbrev S128x8 : Shape := ⟨2, ![128, 8]⟩
abbrev S1x1x128x8x1 : Shape := ⟨5, ![1, 1, 128, 8, 1]⟩
abbrev S8x16x256x1024 : Shape := ⟨4, ![8, 16, 256, 1024]⟩
abbrev S8x16x1024 : Shape := ⟨3, ![8, 16, 1024]⟩
abbrev S32768x1024 : Shape := ⟨2, ![32768, 1024]⟩
abbrev S64x2x1024 : Shape := ⟨3, ![64, 2, 1024]⟩

abbrev nBuf : Space → Nat
  | .hbm => 126
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5120, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1024x5120, .f32⟩
  | .hbm, ⟨24, _⟩ => ⟨S8x4096x5120, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S1024, .f32⟩
  | .hbm, ⟨65, _⟩ => ⟨S8x4096x1024, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S8x4096x1, .f32⟩
  | .hbm, ⟨76, _⟩ => ⟨S8x4096x1024, .f32⟩
  | .hbm, ⟨77, _⟩ => ⟨S8x4096x1024, .f32⟩
  | .hbm, ⟨78, _⟩ => ⟨S1x1x1024, .f32⟩
  | .hbm, ⟨79, _⟩ => ⟨S8x4096x1024, .f32⟩
  | .hbm, ⟨80, _⟩ => ⟨S8x4096x1024, .f32⟩
  | .hbm, ⟨81, _⟩ => ⟨S8x32x128x8x128, .f32⟩
  | .hbm, ⟨82, _⟩ => ⟨S_, .i1⟩
  | .hbm, ⟨83, _⟩ => ⟨S128x128, .i1⟩
  | .hbm, ⟨84, _⟩ => ⟨S128x128, .i32⟩
  | .hbm, ⟨85, _⟩ => ⟨S_, .i32⟩
  | .hbm, ⟨86, _⟩ => ⟨S128x128, .i32⟩
  | .hbm, ⟨87, _⟩ => ⟨S128x128, .i32⟩
  | .hbm, ⟨88, _⟩ => ⟨S128x128, .i32⟩
  | .hbm, ⟨89, _⟩ => ⟨S128x128, .i1⟩
  | .hbm, ⟨90, _⟩ => ⟨S_, .i1⟩
  | .hbm, ⟨91, _⟩ => ⟨S128x128, .i1⟩
  | .hbm, ⟨92, _⟩ => ⟨S128x128, .i1⟩
  | .hbm, ⟨93, _⟩ => ⟨S1x128x128, .i1⟩
  | .hbm, ⟨94, _⟩ => ⟨S8x128x128, .f32⟩
  | .hbm, ⟨95, _⟩ => ⟨S_, .f32⟩
  | .hbm, ⟨96, _⟩ => ⟨S8x128x128, .i1⟩
  | .hbm, ⟨97, _⟩ => ⟨S8x128x128, .f32⟩
  | .hbm, ⟨98, _⟩ => ⟨S8x128x128, .f32⟩
  | .hbm, ⟨99, _⟩ => ⟨S8x8x32x128x128, .f32⟩
  | .hbm, ⟨100, _⟩ => ⟨S8x32x128x8x128, .f32⟩
  | .hbm, ⟨101, _⟩ => ⟨S8x128, .f32⟩
  | .hbm, ⟨102, _⟩ => ⟨S128x8, .f32⟩
  | .hbm, ⟨103, _⟩ => ⟨S1x1x128x8x1, .f32⟩
  | .hbm, ⟨104, _⟩ => ⟨S8x32x128x8x128, .f32⟩
  | .hbm, ⟨105, _⟩ => ⟨S8x32x128x8x128, .f32⟩
  | .hbm, ⟨106, _⟩ => ⟨S8x4096x1024, .f32⟩
  | .hbm, ⟨107, _⟩ => ⟨S8x4096x1024, .f32⟩
  | .hbm, ⟨108, _⟩ => ⟨S8x16x256x1024, .f32⟩
  | .hbm, ⟨109, _⟩ => ⟨S_, .f32⟩
  | .hbm, ⟨110, _⟩ => ⟨S8x16x1024, .f32⟩
  | .hbm, ⟨111, _⟩ => ⟨S_, .f32⟩
  | .hbm, ⟨112, _⟩ => ⟨S8x16x1024, .f32⟩
  | .hbm, ⟨113, _⟩ => ⟨S8x16x1024, .f32⟩
  | .hbm, ⟨114, _⟩ => ⟨S32768x1024, .f32⟩
  | .hbm, ⟨115, _⟩ => ⟨S32768x1024, .bf16⟩
  | .hbm, ⟨116, _⟩ => ⟨S_, .f32⟩
  | .hbm, ⟨117, _⟩ => ⟨S8x4096x1024, .f32⟩
  | .hbm, ⟨118, _⟩ => ⟨S8x4096x1024, .f32⟩
  | .hbm, ⟨119, _⟩ => ⟨S32768x1024, .f32⟩
  | .hbm, ⟨120, _⟩ => ⟨S32768x1024, .bf16⟩
  | .hbm, ⟨121, _⟩ => ⟨S32768x1024, .f32⟩
  | .hbm, ⟨122, _⟩ => ⟨S32768x1024, .bf16⟩
  | .hbm, ⟨123, _⟩ => ⟨S32768x1024, .f32⟩
  | .hbm, ⟨124, _⟩ => ⟨S32768x1024, .bf16⟩
  | .hbm, ⟨125, _⟩ => ⟨S64x2x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c : Ref sig .tc := ⟨.hbm, 82, rfl⟩
abbrev main_v62 : Ref sig .tc := ⟨.hbm, 83, rfl⟩
abbrev main_call0_v0 : Ref sig .tc := ⟨.hbm, 84, rfl⟩
abbrev main_call0_c : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_c_0 : Ref sig .tc := ⟨.hbm, 90, rfl⟩
abbrev main_call0_v5 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_call1_v0 : Ref sig .tc := ⟨.hbm, 96, rfl⟩
abbrev main_call1_v1 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_16 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]
-- ==== Post.lean ====
abbrev S8x4096x1024 : Shape := ⟨3, ![8, 4096, 1024]⟩
abbrev S32768x1024 : Shape := ⟨2, ![32768, 1024]⟩
abbrev S2048x1024 : Shape := ⟨2, ![2048, 1024]⟩
abbrev S1x1024 : Shape := ⟨2, ![1, 1024]⟩
abbrev S1x1024x2048 : Shape := ⟨3, ![1, 1024, 2048]⟩
abbrev S1x2048 : Shape := ⟨2, ![1, 2048]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1x1024x8 : Shape := ⟨3, ![1, 1024, 8]⟩
abbrev S1x8 : Shape := ⟨2, ![1, 8]⟩
abbrev S1x1024x64 : Shape := ⟨3, ![1, 1024, 64]⟩
abbrev S1x64 : Shape := ⟨2, ![1, 64]⟩
abbrev S1024x8 : Shape := ⟨2, ![1024, 8]⟩
abbrev S1024x64 : Shape := ⟨2, ![1024, 64]⟩
abbrev S_ : Shape := ⟨0, ![]⟩
abbrev S1024x56 : Shape := ⟨2, ![1024, 56]⟩
abbrev S1024x128 : Shape := ⟨2, ![1024, 128]⟩
abbrev S8 : Shape := ⟨1, ![8]⟩
abbrev S64 : Shape := ⟨1, ![64]⟩
abbrev S56 : Shape := ⟨1, ![56]⟩
abbrev S128 : Shape := ⟨1, ![128]⟩
abbrev S1024 : Shape := ⟨1, ![1024]⟩
abbrev S1024x2048 : Shape := ⟨2, ![1024, 2048]⟩
abbrev S2048 : Shape := ⟨1, ![2048]⟩
abbrev S1024x1024 : Shape := ⟨2, ![1024, 1024]⟩
abbrev S1024x512 : Shape := ⟨2, ![1024, 512]⟩
abbrev S512x1024 : Shape := ⟨2, ![512, 1024]⟩
abbrev S1024x256 : Shape := ⟨2, ![1024, 256]⟩
abbrev S1x128 : Shape := ⟨2, ![1, 128]⟩
abbrev S262144x128 : Shape := ⟨2, ![262144, 128]⟩
abbrev S32768x128 : Shape := ⟨2, ![32768, 128]⟩
abbrev S2x32768 : Shape := ⟨2, ![2, 32768]⟩
abbrev S256x1024 : Shape := ⟨2, ![256, 1024]⟩
abbrev S4096x128 : Shape := ⟨2, ![4096, 128]⟩
abbrev S512x128 : Shape := ⟨2, ![512, 128]⟩
abbrev S2x512 : Shape := ⟨2, ![2, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩
abbrev S512x256 : Shape := ⟨2, ![512, 256]⟩
abbrev S128x256 : Shape := ⟨2, ![128, 256]⟩
abbrev S1x256 : Shape := ⟨2, ![1, 256]⟩

abbrev nBuf : Space → Nat
  | .hbm => 60
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S32768x1024, .bf16⟩
  | .hbm, ⟨2, _⟩ => ⟨S32768x1024, .bf16⟩
  | .hbm, ⟨3, _⟩ => ⟨S2048x1024, .bf16⟩
  | .hbm, ⟨4, _⟩ => ⟨S1x1024, .f32⟩
  | .hbm, ⟨5, _⟩ => ⟨S1x1024x2048, .f32⟩
  | .hbm, ⟨6, _⟩ => ⟨S1x2048, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024, .f32⟩
  | .hbm, ⟨11, _⟩ => ⟨S1x1024x512, .f32⟩
  | .hbm, ⟨12, _⟩ => ⟨S1x512x1024, .f32⟩
  | .hbm, ⟨13, _⟩ => ⟨S1x1024, .f32⟩
  | .hbm, ⟨14, _⟩ => ⟨S1x1024x8, .f32⟩
  | .hbm, ⟨15, _⟩ => ⟨S1x8, .f32⟩
  | .hbm, ⟨16, _⟩ => ⟨S1x1024x64, .f32⟩
  | .hbm, ⟨17, _⟩ => ⟨S1x64, .f32⟩
  | .hbm, ⟨18, _⟩ => ⟨S32768x1024, .f32⟩
  | .hbm, ⟨19, _⟩ => ⟨S1024x8, .f32⟩
  | .hbm, ⟨20, _⟩ => ⟨S1024x64, .f32⟩
  | .hbm, ⟨21, _⟩ => ⟨S_, .f32⟩
  | .hbm, ⟨22, _⟩ => ⟨S1024x56, .f32⟩
  | .hbm, ⟨23, _⟩ => ⟨S1024x128, .f32⟩
  | .hbm, ⟨24, _⟩ => ⟨S8, .f32⟩
  | .hbm, ⟨25, _⟩ => ⟨S64, .f32⟩
  | .hbm, ⟨26, _⟩ => ⟨S_, .f32⟩
  | .hbm, ⟨27, _⟩ => ⟨S56, .f32⟩
  | .hbm, ⟨28, _⟩ => ⟨S128, .f32⟩
  | .hbm, ⟨29, _⟩ => ⟨S1024x128, .bf16⟩
  | .hbm, ⟨30, _⟩ => ⟨S1024x128, .f32⟩
  | .hbm, ⟨31, _⟩ => ⟨S1024x128, .f32⟩
  | .hbm, ⟨32, _⟩ => ⟨S1024x128, .bf16⟩
  | .hbm, ⟨33, _⟩ => ⟨S1024, .f32⟩
  | .hbm, ⟨34, _⟩ => ⟨S1x1024, .f32⟩
  | .hbm, ⟨35, _⟩ => ⟨S1024x2048, .f32⟩
  | .hbm, ⟨36, _⟩ => ⟨S1024x2048, .bf16⟩
  | .hbm, ⟨37, _⟩ => ⟨S2048, .f32⟩
  | .hbm, ⟨38, _⟩ => ⟨S1x2048, .f32⟩
  | .hbm, ⟨39, _⟩ => ⟨S1024x1024, .f32⟩
  | .hbm, ⟨40, _⟩ => ⟨S1024x1024, .bf16⟩
  | .hbm, ⟨41, _⟩ => ⟨S1024x1024, .f32⟩
  | .hbm, ⟨42, _⟩ => ⟨S1024x1024, .bf16⟩
  | .hbm, ⟨43, _⟩ => ⟨S1024x1024, .f32⟩
  | .hbm, ⟨44, _⟩ => ⟨S1024x1024, .bf16⟩
  | .hbm, ⟨45, _⟩ => ⟨S1024, .f32⟩
  | .hbm, ⟨46, _⟩ => ⟨S1x1024, .f32⟩
  | .hbm, ⟨47, _⟩ => ⟨S1024x512, .f32⟩
  | .hbm, ⟨48, _⟩ => ⟨S1024x512, .bf16⟩
  | .hbm, ⟨49, _⟩ => ⟨S512x1024, .f32⟩
  | .hbm, ⟨50, _⟩ => ⟨S512x1024, .bf16⟩
  | .hbm, ⟨51, _⟩ => ⟨S1024, .f32⟩
  | .hbm, ⟨52, _⟩ => ⟨S1x1024, .f32⟩
  | .hbm, ⟨53, _⟩ => ⟨S1024x256, .bf16⟩
  | .hbm, ⟨54, _⟩ => ⟨S1x128, .f32⟩
  | .hbm, ⟨55, _⟩ => ⟨S32768x1024, .f32⟩
  | .hbm, ⟨56, _⟩ => ⟨S262144x128, .f32⟩
  | .hbm, ⟨57, _⟩ => ⟨S32768x128, .f32⟩
  | .hbm, ⟨58, _⟩ => ⟨S2x32768, .i32⟩
  | .hbm, ⟨59, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1024x2048, .bf16⟩
  | .local _ .vmem, ⟨10, _⟩ => ⟨S1x2048, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x512, .bf16⟩
  | .local _ .vmem, ⟨16, _⟩ => ⟨S512x1024, .bf16⟩
  | .local _ .vmem, ⟨17, _⟩ => ⟨S1x1024, .f32⟩
  | .local _ .vmem, ⟨18, _⟩ => ⟨S1024x256, .bf16⟩
  | .local _ .vmem, ⟨19, _⟩ => ⟨S1x128, .f32⟩
  | .local _ .vmem, ⟨20, _⟩ => ⟨S512x1024, .f32⟩
  | .local _ .vmem, ⟨21, _⟩ => ⟨S512x1024, .f32⟩
  | .local _ .vmem, ⟨22, _⟩ => ⟨S4096x128, .f32⟩
  | .local _ .vmem, ⟨23, _⟩ => ⟨S4096x128, .f32⟩
  | .local _ .vmem, ⟨24, _⟩ => ⟨S512x128, .f32⟩
  | .local _ .vmem, ⟨25, _⟩ => ⟨S512x128, .f32⟩
  | .local _ .vmem, ⟨26, _⟩ => ⟨S2x512, .i32⟩
  | .local _ .vmem, ⟨27, _⟩ => ⟨S2x512, .i32⟩
  | .local _ .vmem, ⟨28, _⟩ => ⟨S1x128, .f32⟩
  | .local _ .vmem, ⟨29, _⟩ => ⟨S1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_v35_2 : Ref sig .tc := ⟨.hbm, 57, rfl⟩
abbrev main_v35_3 : Ref sig .tc := ⟨.hbm, 58, rfl⟩
abbrev main_v35_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4096x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x512 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== PostRefIdeal.lean ====
abbrev S8x4096x1024 : Shape := ⟨3, ![8, 4096, 1024]⟩
abbrev S32768x1024 : Shape := ⟨2, ![32768, 1024]⟩
abbrev S2048x1024 : Shape := ⟨2, ![2048, 1024]⟩
abbrev S1x1024 : Shape := ⟨2, ![1, 1024]⟩
abbrev S1x1024x2048 : Shape := ⟨3, ![1, 1024, 2048]⟩
abbrev S1x2048 : Shape := ⟨2, ![1, 2048]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1x1024x8 : Shape := ⟨3, ![1, 1024, 8]⟩
abbrev S1x8 : Shape := ⟨2, ![1, 8]⟩
abbrev S1x1024x64 : Shape := ⟨3, ![1, 1024, 64]⟩
abbrev S1x64 : Shape := ⟨2, ![1, 64]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x1024 : Shape := ⟨2, ![1024, 1024]⟩
abbrev S1024x2048 : Shape := ⟨2, ![1024, 2048]⟩
abbrev S8x4096x2048 : Shape := ⟨3, ![8, 4096, 2048]⟩
abbrev S2048 : Shape := ⟨1, ![2048]⟩
abbrev S1x1x2048 : Shape := ⟨3, ![1, 1, 2048]⟩
abbrev S8x4096x2x1024 : Shape := ⟨4, ![8, 4096, 2, 1024]⟩
abbrev S8x4096x1x1024 : Shape := ⟨4, ![8, 4096, 1, 1024]⟩
abbrev S1024x512 : Shape := ⟨2, ![1024, 512]⟩
abbrev S8x4096x512 : Shape := ⟨3, ![8, 4096, 512]⟩
abbrev S8x4096x4x128 : Shape := ⟨4, ![8, 4096, 4, 128]⟩
abbrev S8x256x2x4x128 : Shape := ⟨5, ![8, 256, 2, 4, 128]⟩
abbrev S8x256x1x4x128 : Shape := ⟨5, ![8, 256, 1, 4, 128]⟩
abbrev S8x256x4x128 : Shape := ⟨4, ![8, 256, 4, 128]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S512x1024 : Shape := ⟨2, ![512, 1024]⟩
abbrev S262144x128 : Shape := ⟨2, ![262144, 128]⟩

abbrev nBuf : Space → Nat
  | .hbm => 137
  | .vmem => 0
  | .smem => 0
  | _ => 0

abbrev hbmTy0_0 (i : Nat) : BufTy := match i % 128 with
  | 0 => ⟨S8x4096x1024, .f32⟩
  | 1 => ⟨S32768x1024, .bf16⟩
  | 2 => ⟨S32768x1024, .bf16⟩
  | 3 => ⟨S2048x1024, .bf16⟩
  | 4 => ⟨S1x1024, .f32⟩
  | 5 => ⟨S1x1024x2048, .f32⟩
  | 6 => ⟨S1x2048, .f32⟩
  | 7 => ⟨S1x1024x1024, .f32⟩
  | 8 => ⟨S1x1024x1024, .f32⟩
  | 9 => ⟨S1x1024x1024, .f32⟩
  | 10 => ⟨S1x1024, .f32⟩
  | 11 => ⟨S1x1024x512, .f32⟩
  | 12 => ⟨S1x512x1024, .f32⟩
  | 13 => ⟨S1x1024, .f32⟩
  | 14 => ⟨S1x1024x8, .f32⟩
  | 15 => ⟨S1x8, .f32⟩
  | 16 => ⟨S1x1024x64, .f32⟩
  | 17 => ⟨S1x64, .f32⟩
  | 18 => ⟨S1024, .f32⟩
  | 19 => ⟨S8x4096x1024, .f32⟩
  | 20 => ⟨S_, .f32⟩
  | 21 => ⟨S8x4096, .f32⟩
  | 22 => ⟨S8x4096x1, .f32⟩
  | 23 => ⟨S_, .f32⟩
  | 24 => ⟨S8x4096x1, .f32⟩
  | 25 => ⟨S8x4096x1, .f32⟩
  | 26 => ⟨S_, .f32⟩
  | 27 => ⟨S8x4096x1, .f32⟩
  | 28 => ⟨S8x4096x1, .f32⟩
  | 29 => ⟨S8x4096x1, .f32⟩
  | 30 => ⟨S8x4096x1024, .f32⟩
  | 31 => ⟨S8x4096x1024, .f32⟩
  | 32 => ⟨S1x1x1024, .f32⟩
  | 33 => ⟨S8x4096x1024, .f32⟩
  | 34 => ⟨S8x4096x1024, .f32⟩
  | 35 => ⟨S32768x1024, .f32⟩
  | 36 => ⟨S8x4096x1024, .f32⟩
  | 37 => ⟨S1024x1024, .f32⟩
  | 38 => ⟨S8x4096x1024, .f32⟩
  | 39 => ⟨S32768x1024, .f32⟩
  | 40 => ⟨S8x4096x1024, .f32⟩
  | 41 => ⟨S1024x1024, .f32⟩
  | 42 => ⟨S8x4096x1024, .f32⟩
  | 43 => ⟨S1024x2048, .f32⟩
  | 44 => ⟨S8x4096x2048, .f32⟩
  | 45 => ⟨S2048, .f32⟩
  | 46 => ⟨S1x1x2048, .f32⟩
  | 47 => ⟨S8x4096x2048, .f32⟩
  | 48 => ⟨S8x4096x2048, .f32⟩
  | 49 => ⟨S8x4096x2048, .f32⟩
  | 50 => ⟨S8x4096x2048, .f32⟩
  | 51 => ⟨S_, .f32⟩
  | 52 => ⟨S8x4096x2048, .f32⟩
  | 53 => ⟨S8x4096x2048, .f32⟩
  | 54 => ⟨S_, .f32⟩
  | 55 => ⟨S8x4096x2048, .f32⟩
  | 56 => ⟨S8x4096x2048, .f32⟩
  | 57 => ⟨S8x4096x2x1024, .f32⟩
  | 58 => ⟨S8x4096x1x1024, .f32⟩
  | 59 => ⟨S8x4096x1024, .f32⟩
  | 60 => ⟨S8x4096x1024, .f32⟩
  | 61 => ⟨S8x4096x1x1024, .f32⟩
  | 62 => ⟨S8x4096x1024, .f32⟩
  | 63 => ⟨S8x4096x1024, .f32⟩
  | 64 => ⟨S8x4096x1024, .f32⟩
  | 65 => ⟨S1024x1024, .f32⟩
  | 66 => ⟨S8x4096x1024, .f32⟩
  | 67 => ⟨S8x4096x1024, .f32⟩
  | 68 => ⟨S1024, .f32⟩
  | 69 => ⟨S8x4096x1024, .f32⟩
  | 70 => ⟨S_, .f32⟩
  | 71 => ⟨S8x4096, .f32⟩
  | 72 => ⟨S8x4096x1, .f32⟩
  | 73 => ⟨S_, .f32⟩
  | 74 => ⟨S8x4096x1, .f32⟩
  | 75 => ⟨S8x4096x1, .f32⟩
  | 76 => ⟨S_, .f32⟩
  | 77 => ⟨S8x4096x1, .f32⟩
  | 78 => ⟨S8x4096x1, .f32⟩
  | 79 => ⟨S8x4096x1, .f32⟩
  | 80 => ⟨S8x4096x1024, .f32⟩
  | 81 => ⟨S8x4096x1024, .f32⟩
  | 82 => ⟨S1x1x1024, .f32⟩
  | 83 => ⟨S8x4096x1024, .f32⟩
  | 84 => ⟨S8x4096x1024, .f32⟩
  | 85 => ⟨S1024x512, .f32⟩
  | 86 => ⟨S8x4096x512, .f32⟩
  | 87 => ⟨S8x4096x4x128, .f32⟩
  | 88 => ⟨S2048x1024, .f32⟩
  | 89 => ⟨S8x256x2x4x128, .f32⟩
  | 90 => ⟨S8x256x1x4x128, .f32⟩
  | 91 => ⟨S8x256x4x128, .f32⟩
  | 92 => ⟨S8x256x1x4x128, .f32⟩
  | 93 => ⟨S8x256x4x128, .f32⟩
  | 94 => ⟨S8x4x4096x256, .f32⟩
  | 95 => ⟨S_, .f32⟩
  | 96 => ⟨S8x4x4096x256, .f32⟩
  | 97 => ⟨S8x4x4096x256, .f32⟩
  | 98 => ⟨S_, .f32⟩
  | 99 => ⟨S8x4x4096, .f32⟩
  | 100 => ⟨S_, .f32⟩
  | 101 => ⟨S8x4x4096, .f32⟩
  | 102 => ⟨S8x4x4096, .f32⟩
  | 103 => ⟨S8x4x4096x1, .f32⟩
  | 104 => ⟨S8x4x4096x256, .f32⟩
  | 105 => ⟨S8x4x4096x256, .f32⟩
  | 106 => ⟨S8x4x4096x256, .f32⟩
  | 107 => ⟨S_, .f32⟩
  | 108 => ⟨S8x4x4096, .f32⟩
  | 109 => ⟨S8x4x4096x1, .f32⟩
  | 110 => ⟨S8x4x4096x256, .f32⟩
  | 111 => ⟨S8x4x4096x256, .f32⟩
  | 112 => ⟨S8x4x128x4096, .f32⟩
  | 113 => ⟨S8x4096x4x128, .f32⟩
  | 114 => ⟨S8x4096x512, .f32⟩
  | 115 => ⟨S512x1024, .f32⟩
  | 116 => ⟨S8x4096x1024, .f32⟩
  | 117 => ⟨S8x4096x1024, .f32⟩
  | 118 => ⟨S1024, .f32⟩
  | 119 => ⟨S8x4096x1024, .f32⟩
  | 120 => ⟨S_, .f32⟩
  | 121 => ⟨S8x4096, .f32⟩
  | 122 => ⟨S8x4096x1, .f32⟩
  | 123 => ⟨S_, .f32⟩
  | 124 => ⟨S8x4096x1, .f32⟩
  | 125 => ⟨S8x4096x1, .f32⟩
  | 126 => ⟨S_, .f32⟩
  | 127 => ⟨S8x4096x1, .f32⟩
  | _ => ⟨S8x4096x1024, .f32⟩

abbrev hbmTy0_1 (i : Nat) : BufTy := match i % 128 with
  | 0 => ⟨S8x4096x1, .f32⟩
  | 1 => ⟨S8x4096x1, .f32⟩
  | 2 => ⟨S8x4096x1024, .f32⟩
  | 3 => ⟨S8x4096x1024, .f32⟩
  | 4 => ⟨S1x1x1024, .f32⟩
  | 5 => ⟨S8x4096x1024, .f32⟩
  | 6 => ⟨S8x4096x1024, .f32⟩
  | 7 => ⟨S32768x1024, .f32⟩
  | 8 => ⟨S262144x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_4 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_7 : Ref sig .tc := ⟨.hbm, 95, rfl⟩
abbrev main_v69 : Ref sig .tc := ⟨.hbm, 96, rfl⟩
abbrev main_v70 : Ref sig .tc := ⟨.hbm, 97, rfl⟩
abbrev main_cst_8 : Ref sig .tc := ⟨.hbm, 98, rfl⟩
abbrev main_v71 : Ref sig .tc := ⟨.hbm, 99, rfl⟩
abbrev main_cst_9 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_10 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_11 : Ref sig .tc := ⟨.hbm, 120, rfl⟩
abbrev main_v90 : Ref sig .tc := ⟨.hbm, 121, rfl⟩
abbrev main_v91 : Ref sig .tc := ⟨.hbm, 122, rfl⟩
abbrev main_cst_12 : Ref sig .tc := ⟨.hbm, 123, rfl⟩
abbrev main_v92 : Ref sig .tc := ⟨.hbm, 124, rfl⟩
abbrev main_v93 : Ref sig .tc := ⟨.hbm, 125, rfl⟩
abbrev main_cst_13 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]
-- ==== Memkv.lean ====
abbrev S8x256x1024 : Shape := ⟨3, ![8, 256, 1024]⟩
abbrev S1x1024 : Shape := ⟨2, ![1, 1024]⟩
abbrev S1x1024x1024 : Shape := ⟨3, ![1, 1024, 1024]⟩
abbrev S2048x1024 : Shape := ⟨2, ![2048, 1024]⟩
abbrev S1024 : Shape := ⟨1, ![1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemkvRefIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1024x1024, .f32⟩
  | .hbm, ⟨21, _⟩ => ⟨S8x256x1024, .f32⟩
  | .hbm, ⟨22, _⟩ => ⟨S2048x1024, .f32⟩
  | .hbm, ⟨23, _⟩ => ⟨S2048x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Combine.lean ====
abbrev S32768x1024 : Shape := ⟨2, ![32768, 1024]⟩
abbrev S528384x128 : Shape := ⟨2, ![528384, 128]⟩
abbrev S32768x128 : Shape := ⟨2, ![32768, 128]⟩
abbrev S1024 : Shape := ⟨1, ![1024]⟩
abbrev S1x1024 : Shape := ⟨2, ![1, 1024]⟩
abbrev S512x1024 : Shape := ⟨2, ![512, 1024]⟩
abbrev S4096x128 : Shape := ⟨2, ![4096, 128]⟩
abbrev S512x128 : Shape := ⟨2, ![512, 128]⟩
abbrev S512x1 : Shape := ⟨2, ![512, 1]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S528384x128, .f32⟩
  | .hbm, ⟨2, _⟩ => ⟨S32768x128, .f32⟩
  | .hbm, ⟨3, _⟩ => ⟨S1024, .f32⟩
  | .hbm, ⟨4, _⟩ => ⟨S1x1024, .f32⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S32768x1024 : Shape := ⟨2, ![32768, 1024]⟩
abbrev S528384x128 : Shape := ⟨2, ![528384, 128]⟩
abbrev S32768x128 : Shape := ⟨2, ![32768, 128]⟩
abbrev S1024 : Shape := ⟨1, ![1024]⟩
abbrev S262144x128 : Shape := ⟨2, ![262144, 128]⟩
abbrev S32768x1 : Shape := ⟨2, ![32768, 1]⟩
abbrev S_ : Shape := ⟨0, ![]⟩
abbrev S32768 : Shape := ⟨1, ![32768]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S528384x128, .f32⟩
  | .hbm, ⟨2, _⟩ => ⟨S32768x128, .f32⟩
  | .hbm, ⟨3, _⟩ => ⟨S1024, .f32⟩
  | .hbm, ⟨4, _⟩ => ⟨S262144x128, .f32⟩
  | .hbm, ⟨5, _⟩ => ⟨S32768x1024, .f32⟩
  | .hbm, ⟨6, _⟩ => ⟨S262144x128, .f32⟩
  | .hbm, ⟨7, _⟩ => ⟨S32768x1024, .f32⟩
  | .hbm, ⟨8, _⟩ => ⟨S32768x1, .f32⟩
  | .hbm, ⟨9, _⟩ => ⟨S32768x1024, .f32⟩
  | .hbm, ⟨10, _⟩ => ⟨S32768x1024, .f32⟩
  | .hbm, ⟨11, _⟩ => ⟨S32768x1, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.InprojSpec.lean ====
/- THE MIXER'S ROWS, in plain words: what the projection call computes for one row, for a chunk of 128 rows and for
   a block of 256 rows, as functions over the extended reals. Both programs are read down to these functions
   (InprojKernel.lean the kernel's block, InprojReference.lean the reference's arrays). -/
module

public import Idealize.ShloMosaic.Lib.Pointwise

@[expose] public section

noncomputable section

namespace Cert.Spec

open Idealize.ShloMosaic

/-- The mean square of a row of 1024, with the small constant under the root added: the root's argument. -/
def meanSq (x : Fin 1024 → EReal) : EReal :=
  Ideal.div (∑ k, x k * x k) (Ideal.ofBits .f32 0x44800000#32) + Ideal.ofBits .f32 0x358637BD#32

/-- A row divided by its root mean square and scaled, at column `j`. -/
def rms (x w : Fin 1024 → EReal) (j : Fin 1024) : EReal := x j * Ideal.rsqrt (meanSq x) * w j

/-- The gated linear unit's smooth step, in its hyperbolic tangent form. -/
def gelu (u : EReal) : EReal :=
  u * (Ideal.ofBits .f32 0x3F000000#32 * (1
    + Ideal.tanh (Ideal.ofBits .f32 0x3F4C422A#32 * (u + Ideal.ofBits .f32 0x3D372713#32 * (u * u * u)))))

/-- The normed row times column `c` of the input projection. -/
def proj (x w : Fin 1024 → EReal) (W : Fin 1024 → Fin 5120 → EReal) (c : Fin 5120) : EReal :=
  ∑ k, rms x w k * W k c

/-- Column `j` of part `p` (the projection's five parts of 1024 columns: u, v, q, k, v). -/
abbrev part (p : Fin 5) (j : Fin 1024) : Fin 5120 := ⟨1024 * p.val + j.val, by omega⟩

/-- The mixer's multiplicand: the first part through the smooth step. -/
def left (x w : Fin 1024 → EReal) (W : Fin 1024 → Fin 5120 → EReal) (j : Fin 1024) : EReal :=
  gelu (proj x w W (part 0 j))

/-- The mixed operand: the second part through the smooth step, normed. -/
def right (x w : Fin 1024 → EReal) (W : Fin 1024 → Fin 5120 → EReal) (g : Fin 1024 → EReal) (j : Fin 1024) : EReal :=
  rms (fun k => gelu (proj x w W (part 1 k))) g j

/-- The mixer over a chunk of 128 rows, at row `t` and column `j`: group `j / 128` mixes rows `s ≤ t` of the chunk. -/
def mixer (x : Fin 128 → Fin 1024 → EReal) (w : Fin 1024 → EReal) (W : Fin 1024 → Fin 5120 → EReal)
    (g : Fin 1024 → EReal) (S : Fin 8 → Fin 128 → Fin 128 → EReal) (b : Fin 8 → Fin 128 → EReal)
    (t : Fin 128) (j : Fin 1024) : EReal :=
  left (x t) w W j
    * ((∑ s : Fin 128, (if s ≤ t then S ⟨j.val / 128, by omega⟩ t s else 0) * right (x s) w W g j)
        + b ⟨j.val / 128, by omega⟩ t)

/-- The mean of the fourth part (the keys) over a block of 256 rows, at column `j`. -/
def keyMean (x : Fin 256 → Fin 1024 → EReal) (w : Fin 1024 → EReal) (W : Fin 1024 → Fin 5120 → EReal)
    (j : Fin 1024) : EReal :=
  Ideal.div (∑ s : Fin 256, proj (x s) w W (part 3 j)) (Ideal.ofBits .f32 0x43800000#32)

end Cert.Spec

end
-- ==== Proof.InprojKernel.lean ====
/- THE KERNEL'S BLOCK ROW BY ROW. -/
module

public import proofs.«01_k».proof.Proof.Gen.InprojIdeal.Skeleton
public import proofs.«01_k».proof.Proof.InprojSpec

@[expose] public section

noncomputable section

namespace Cert.InprojIdeal.BlockValue

open Cert.InprojIdeal Cert.InprojIdeal.Gen Idealize.ShloMosaic Cert.Spec

set_option maxRecDepth 16384

variable (x0 : Vec Ideal S512x1024 .f32) (x1 : Vec Ideal S1x1024 .f32) (x2 : Vec Ideal S1024x5120 .bf16)
  (x3 : Vec Ideal S1x1024 .f32) (x4 : Vec Ideal S8x128x128 .f32) (x5 : Vec Ideal S128x1024 .f32)

abbrev br (i : Fin 512) : Fin 1024 → EReal := fun k => x0 (ix2 i k)
abbrev sc (x : Vec Ideal S1x1024 .f32) : Fin 1024 → EReal := fun k => x (ix2 0 k)
abbrev pm : Fin 1024 → Fin 5120 → EReal := fun k c => x2 (ix2 k c)

theorem pay2_at (i : Fin 512) (j : Fin 1024) :
    k0_pay2 (F := Ideal) x0 x1 (ix2 i j) = rms (br x0 i) (sc x1) j := by
  pointwise [k0_pay2]
  rfl

variable (xn : FVec Ideal S512x1024 .bf16) (wp : Vec Ideal S1024x1024 .bf16)

theorem pay3_at (i : Fin 512) (j : Fin 1024) :
    k0_pay3 (F := Ideal) x0 x1 wp (ix2 i j) = gelu (∑ k, rms (br x0 i) (sc x1) k * wp (ix2 k j)) := by
  pointwise [k0_pay3]
  simp only [pay2_at]
  rfl

theorem pay4_at (i : Fin 512) (j : Fin 1024) :
    k0_pay4 (F := Ideal) x0 x1 wp (ix2 i j) = ∑ k, rms (br x0 i) (sc x1) k * wp (ix2 k j) := by
  pointwise [k0_pay4]
  simp only [pay2_at]

theorem pay6_at (i : Fin 512) (j : Fin 1024) :
    k0_pay6 (F := Ideal) (k0_pay4 x0 x1 wp) (k0_pay5 x0 x1 wp) x3 (ix2 i j)
      = rms (fun k => gelu (k0_pay4 (F := Ideal) x0 x1 wp (ix2 i k))) (sc x3) j := by
  pointwise [k0_pay6, k0_pay5]
  rfl

theorem pay28_at (i : Fin 512) (j : Fin 1024) :
    k0_pay28 (F := Ideal) xn wp (ix2 i j) = (∑ k, xn (ix2 i k) * wp (ix2 k j)) * Ideal.ofBits .f32 0x3E0293EE#32 := by
  pointwise [k0_pay28]
theorem pay30_at (i : Fin 512) (j : Fin 1024) :
    k0_pay30 (F := Ideal) xn wp (ix2 i j) = ∑ k, xn (ix2 i k) * wp (ix2 k j) := by
  pointwise [k0_pay30, k0_pay29]
theorem pay1_at (i : Fin 512) (j : Fin 1024) :
    k0_pay1 (F := Ideal) xn (k0_pay33 wp) (constant S512x1024 .f32 0x00000000#32) (ix2 i j) = ∑ k, xn (ix2 i k) * wp (ix2 k j) := by
  pointwise [k0_pay1, k0_pay33]
theorem pay31_at (j : Fin 1024) :
    k0_pay31 (F := Ideal) xn wp (ix3 0 0 j)
      = Ideal.div (∑ s : Fin 256, ∑ k, xn (ix2 ⟨s.val, by omega⟩ k) * wp (ix2 k j)) (Ideal.ofBits .f32 0x43800000#32) := by
  pointwise [k0_pay31, k0_pay29]
theorem pay32_at (j : Fin 1024) :
    k0_pay32 (F := Ideal) xn wp (ix3 0 0 j)
      = Ideal.div (∑ s : Fin 256, ∑ k, xn (ix2 ⟨256 + s.val, by omega⟩ k) * wp (ix2 k j)) (Ideal.ofBits .f32 0x43800000#32) := by
  pointwise [k0_pay32, k0_pay29]

/-- The comparison of two positions below 128, as a bit. -/
theorem sle_at (t s : Fin 128) :
    IntOp.cmpi .sle (BitVec.ofNat 32 s.val) (BitVec.ofNat 32 t.val) = if s ≤ t then 1#1 else 0#1 := by
  have ht : (BitVec.ofNat 32 t.val).toInt = t.val := by
    rw [BitVec.toInt_eq_toNat_of_lt (by simp [BitVec.toNat_ofNat]; omega), BitVec.toNat_ofNat]; omega
  have hs : (BitVec.ofNat 32 s.val).toInt = s.val := by
    rw [BitVec.toInt_eq_toNat_of_lt (by simp [BitVec.toNat_ofNat]; omega), BitVec.toNat_ofNat]; omega
  simp only [IntOp.cmpi, BitVec.sle, hs, ht, Fin.le_def]
  by_cases h : s.val ≤ t.val <;> simp [h]

/-- A choice by the bit of the comparison is the choice by the comparison. -/
theorem mask_at (t s : Fin 128) (a b : EReal) :
    Scalar.select (IntOp.cmpi .sle (BitVec.ofNat 32 s.val) (BitVec.ofNat 32 t.val)) a b = if s ≤ t then a else b := by
  rw [sle_at]
  by_cases h : s ≤ t
  · rw [if_pos h, if_pos h]; rfl
  · rw [if_neg h, if_neg h]; rfl

variable (w : Vec Ideal S1x128x128 .f32) (t s : Fin 128)

theorem pay8_at : k0_pay8 (F := Ideal) w (ix2 t s) = if s ≤ t then w (ix3 0 t s) else 0 := by
  pointwise [k0_pay8, k0_pay7]; exact mask_at ..
theorem pay9_at : k0_pay9 (F := Ideal) w (ix2 t s) = if s ≤ t then w (ix3 0 t s) else 0 := by
  pointwise [k0_pay9, k0_pay7]; exact mask_at ..
theorem pay11_at : k0_pay11 (k0_pay10 (F := Ideal) w) (ix2 t s) = if s ≤ t then w (ix3 0 t s) else 0 := by
  pointwise [k0_pay11, k0_pay10, k0_pay7]; exact mask_at ..
theorem pay12_at : k0_pay12 (F := Ideal) k0_pay7 w (ix2 t s) = if s ≤ t then w (ix3 0 t s) else 0 := by
  pointwise [k0_pay12, k0_pay7]; exact mask_at ..
theorem pay13_at : k0_pay13 (F := Ideal) k0_pay7 w (ix2 t s) = if s ≤ t then w (ix3 0 t s) else 0 := by
  pointwise [k0_pay13, k0_pay7]; exact mask_at ..
theorem pay14_at : k0_pay14 (F := Ideal) k0_pay7 w (ix2 t s) = if s ≤ t then w (ix3 0 t s) else 0 := by
  pointwise [k0_pay14, k0_pay7]; exact mask_at ..
theorem pay15_at : k0_pay15 (F := Ideal) k0_pay7 w (ix2 t s) = if s ≤ t then w (ix3 0 t s) else 0 := by
  pointwise [k0_pay15, k0_pay7]; exact mask_at ..
theorem pay16_at : k0_pay16 (F := Ideal) k0_pay7 w (ix2 t s) = if s ≤ t then w (ix3 0 t s) else 0 := by
  pointwise [k0_pay16, k0_pay7]; exact mask_at ..

/-- Eight pieces of 128 columns side by side, read at column `j`: the piece `j / 128`, at the same column of the whole. -/
theorem ladder (j : Fin 1024) (C : Fin 8 → Fin 1024 → EReal) :
    (if h : j.val < 128 then C 0 j
      else if h : j.val - 128 < 128 then C 1 ⟨128 + (j.val - 128), by omega⟩
      else if h : j.val - 128 - 128 < 128 then C 2 ⟨256 + (j.val - 128 - 128), by omega⟩
      else if h : j.val - 128 - 128 - 128 < 128 then C 3 ⟨384 + (j.val - 128 - 128 - 128), by omega⟩
      else if h : j.val - 128 - 128 - 128 - 128 < 128 then C 4 ⟨512 + (j.val - 128 - 128 - 128 - 128), by omega⟩
      else if h : j.val - 128 - 128 - 128 - 128 - 128 < 128 then C 5 ⟨640 + (j.val - 128 - 128 - 128 - 128 - 128), by omega⟩
      else if h : j.val - 128 - 128 - 128 - 128 - 128 - 128 < 128 then
        C 6 ⟨768 + (j.val - 128 - 128 - 128 - 128 - 128 - 128), by omega⟩
      else C 7 ⟨896 + (j.val - 128 - 128 - 128 - 128 - 128 - 128 - 128), by omega⟩)
      = C ⟨j.val / 128, by omega⟩ j := by
  split_ifs
  all_goals exact congrArg₂ C (Fin.ext (by simp; omega)) (Fin.ext (by simp; try omega))

variable (v32 : FVec Ideal S512x1024 .f32) (v63 : FVec Ideal S512x1024 .bf16)
  (v71 v76 v81 v86 v91 v96 v101 v106 : FVec Ideal S128x128 .bf16) (v80 : FVec Ideal S128x128 .f32)
  (v108 : FVec Ideal S128x1024 .f32) (v107 : Vec Ideal S128x1024 .f32)

theorem pay17_at (j : Fin 1024) : k0_pay17 (F := Ideal) v107 (ix2 t j) = v107 (ix2 t j) := by
  pointwise [k0_pay17]

theorem pay22_at (j : Fin 1024) :
    k0_pay22 (F := Ideal) v32 v63 v86 v91 v96 v101 v106 v108 (k0_pay18 v63 v71) (k0_pay19 v63 v76) (k0_pay20 v63 v80)
        (k0_pay21 v63) (ix2 t j)
      = v32 (ix2 ⟨t.val, by omega⟩ j) * ((∑ s : Fin 128,
          (![v71, v76, k0_pay11 v80, v86, v91, v96, v101, v106] ⟨j.val / 128, by omega⟩) (ix2 t s)
            * v63 (ix2 ⟨s.val, by omega⟩ j)) + v108 (ix2 t j)) := by
  pointwise [k0_pay22, k0_pay18, k0_pay19, k0_pay20, k0_pay21]
  exact congrArg (fun e => v32 _ * (e + v108 _)) (ladder j (fun g c => ∑ s : Fin 128,
    (![v71, v76, k0_pay11 v80, v86, v91, v96, v101, v106] g) (ix2 t s) * v63 (ix2 ⟨s.val, by omega⟩ c)))

theorem pay23_at (j : Fin 1024) :
    k0_pay23 (F := Ideal) v32 v63 v71 v76 v81 v86 v91 v96 v101 v106 v108 (ix2 t j)
      = v32 (ix2 ⟨128 + t.val, by omega⟩ j) * ((∑ s : Fin 128,
          (![v71, v76, v81, v86, v91, v96, v101, v106] ⟨j.val / 128, by omega⟩) (ix2 t s)
            * v63 (ix2 ⟨128 + s.val, by omega⟩ j)) + v108 (ix2 t j)) := by
  pointwise [k0_pay23]
  exact congrArg (fun e => v32 _ * (e + v108 _)) (ladder j (fun g c => ∑ s : Fin 128,
    (![v71, v76, v81, v86, v91, v96, v101, v106] g) (ix2 t s) * v63 (ix2 ⟨128 + s.val, by omega⟩ c)))

theorem pay26_at (j : Fin 1024) :
    k0_pay26 (F := Ideal) v32 v63 v76 v81 v86 v91 v96 v101 v106 v108 (k0_pay24 v63 v71) (k0_pay25 v63) (ix2 t j)
      = v32 (ix2 ⟨256 + t.val, by omega⟩ j) * ((∑ s : Fin 128,
          (![v71, v76, v81, v86, v91, v96, v101, v106] ⟨j.val / 128, by omega⟩) (ix2 t s)
            * v63 (ix2 ⟨256 + s.val, by omega⟩ j)) + v108 (ix2 t j)) := by
  pointwise [k0_pay26, k0_pay24, k0_pay25]
  exact congrArg (fun e => v32 _ * (e + v108 _)) (ladder j (fun g c => ∑ s : Fin 128,
    (![v71, v76, v81, v86, v91, v96, v101, v106] g) (ix2 t s) * v63 (ix2 ⟨256 + s.val, by omega⟩ c)))

theorem pay27_at (j : Fin 1024) :
    k0_pay27 (F := Ideal) v32 v63 v71 v76 v81 v86 v91 v96 v101 v106 v108 (ix2 t j)
      = v32 (ix2 ⟨384 + t.val, by omega⟩ j) * ((∑ s : Fin 128,
          (![v71, v76, v81, v86, v91, v96, v101, v106] ⟨j.val / 128, by omega⟩) (ix2 t s)
            * v63 (ix2 ⟨384 + s.val, by omega⟩ j)) + v108 (ix2 t j)) := by
  pointwise [k0_pay27]
  exact congrArg (fun e => v32 _ * (e + v108 _)) (ladder j (fun g c => ∑ s : Fin 128,
    (![v71, v76, v81, v86, v91, v96, v101, v106] g) (ix2 t s) * v63 (ix2 ⟨384 + s.val, by omega⟩ c)))

end Cert.InprojIdeal.BlockValue

end
-- ==== Proof.InprojBlock.lean ====
/- THE FIVE OUTPUT BLOCKS of one grid point of the projection kernel, at an index: the row functions of InprojSpec.lean at
   the rows of the point's input block. -/
module

public import proofs.«01_k».proof.Proof.Gen.InprojIdeal.Value
public import proofs.«01_k».proof.Proof.InprojKernel
public import Idealize.ShloMosaic.Lib.StableHlo.ReadAt

@[expose] public section

noncomputable section

namespace Cert.InprojIdeal.BlockValue

open Cert.InprojIdeal Cert.InprojIdeal.Gen Idealize.ShloMosaic Cert.Spec

set_option maxRecDepth 16384

theorem hz2 : (![0, 0] : Fin 2 → Nat) = fun _ => 0 := funext fun a => by fin_cases a <;> rfl

variable (x0 : Vec Ideal S512x1024 .f32) (x1 : Vec Ideal S1x1024 .f32) (x2 : Vec Ideal S1024x5120 .bf16)
  (x3 : Vec Ideal S1x1024 .f32) (x4 : Vec Ideal S8x128x128 .f32) (x5 : Vec Ideal S128x1024 .f32)

/-- The five column parts of the matrix, loaded. -/
theorem ld0_at (k j : Fin 1024) : View.ld x2 r0_2 (ix2 k j) = pm x2 k (part 0 j) := by
  pointwise []
  exact congrArg x2 (congrArg (ix2 k) (Fin.ext (by simp)))
theorem ld1_at (k j : Fin 1024) : View.ld x2 r0_3 (ix2 k j) = pm x2 k (part 1 j) := by pointwise []; rfl
theorem ld2_at (k j : Fin 1024) : View.ld x2 r0_17 (ix2 k j) = pm x2 k (part 2 j) := by pointwise []; rfl
theorem ld3_at (k j : Fin 1024) : View.ld x2 r0_18 (ix2 k j) = pm x2 k (part 3 j) := by pointwise []; rfl
theorem ld4_at (k j : Fin 1024) : View.ld x2 r0_21 (ix2 k j) = pm x2 k (part 4 j) := by pointwise []; rfl

/-- The block's normed rows. -/
theorem pay34_at (i : Fin 512) (j : Fin 1024) :
    k0_pay34 (F := Ideal) x0 x1 x2 x3 x4 x5 (ix2 i j) = rms (br x0 i) (sc x1) j := by
  unfold k0_pay34
  rw [View.ld_unit_zero hz2, View.ld_unit_zero hz2]
  exact pay2_at ..

/-- The multiplicand's block. -/
theorem pay35_at (i : Fin 512) (j : Fin 1024) :
    k0_pay35 (F := Ideal) x0 x1 x2 x3 x4 x5 (ix2 i j) = left (br x0 i) (sc x1) (pm x2) j := by
  unfold k0_pay35
  rw [View.ld_unit_zero hz2, View.ld_unit_zero hz2, pay3_at]
  exact congrArg gelu (Finset.sum_congr rfl fun k _ => congrArg (_ * ·) (ld0_at x2 k j))

/-- The mixed operand's block. -/
theorem pay36_at (i : Fin 512) (j : Fin 1024) :
    k0_pay36 (F := Ideal) x0 x1 x2 x3 x4 x5 (ix2 i j) = right (br x0 i) (sc x1) (pm x2) (sc x3) j := by
  unfold k0_pay36
  rw [View.ld_unit_zero hz2, View.ld_unit_zero hz2, View.ld_unit_zero hz2, pay6_at]
  simp only [pay4_at]
  exact congrArg (fun r => rms r (sc x3) j) (funext fun k => congrArg gelu
    (Finset.sum_congr rfl fun q _ => congrArg (_ * ·) (ld1_at x2 q k)))

theorem out7_at (i : Fin 512) (j : Fin 1024) :
    out0_7 (F := Ideal) x0 x1 x2 x3 x4 x5 (ix2 i j)
      = proj (br x0 i) (sc x1) (pm x2) (part 2 j) * Ideal.ofBits .f32 0x3E0293EE#32 := by
  unfold out0_7
  rw [View.canon_unit_zero hz2, pay28_at]
  simp only [pay34_at]
  exact congrArg (· * _) (Finset.sum_congr rfl fun k _ => congrArg (_ * ·) (ld2_at x2 k j))

theorem out8_at (i : Fin 512) (j : Fin 1024) :
    out0_8 (F := Ideal) x0 x1 x2 x3 x4 x5 (ix2 i j) = proj (br x0 i) (sc x1) (pm x2) (part 3 j) := by
  unfold out0_8
  rw [View.canon_unit_zero hz2, pay30_at]
  simp only [pay34_at]
  exact Finset.sum_congr rfl fun k _ => congrArg (_ * ·) (ld3_at x2 k j)

theorem out9_at (i : Fin 512) (j : Fin 1024) :
    out0_9 (F := Ideal) x0 x1 x2 x3 x4 x5 (ix2 i j) = proj (br x0 i) (sc x1) (pm x2) (part 4 j) := by
  unfold out0_9
  rw [View.canon_unit_zero hz2, pay1_at]
  simp only [pay34_at]
  exact Finset.sum_congr rfl fun k _ => congrArg (_ * ·) (ld4_at x2 k j)

/-- The keys' block means: two halves of 256 rows, one store each. -/
theorem out10_at (h : Fin 2) (j : Fin 1024) :
    out0_10 (F := Ideal) x0 x1 x2 x3 x4 x5 (ix3 0 h j)
      = keyMean (fun s => br x0 ⟨h.val * 256 + s.val, by omega⟩) (sc x1) (pm x2) j := by
  unfold out0_10
  refine View.canon_apply_of_pieces (Val := Elt Ideal) (e := .f32) ((fun y : S1x2x1024.Idx =>
    keyMean (fun s => br x0 ⟨(y 1).val * 256 + s.val, by have h : (y 1).val < 2 := (y 1).isLt; omega⟩) (sc x1) (pm x2) (y 2)) :
      S1x2x1024.Idx → Elt Ideal .f32) _ ?_ _ (cover0_10 _ _ _)
  intro pc hpc
  rcases List.mem_cons.mp hpc with rfl | hpc
  · intro (y : S1x1x1024.Idx)
    idx_vars y
    obtain rfl : y0 = 0 := Subsingleton.elim _ _
    obtain rfl : y1 = 0 := Subsingleton.elim _ _
    refine (pay32_at _ _ _).trans ?_
    simp only [pay34_at]
    refine congrArg (Ideal.div · _) (Finset.sum_congr rfl fun s _ => ?_)
    refine (Finset.sum_congr rfl fun k _ => congrArg (_ * ·) (ld3_at x2 k y2)).trans ?_
    show proj (br x0 ⟨256 + s.val, _⟩) (sc x1) (pm x2) (part 3 y2) = _
    refine congrArg₂ (fun (r : Fin 512) (q : Fin 1024) => proj (br x0 r) (sc x1) (pm x2) (part 3 q)) (Fin.ext ?_) (Fin.ext ?_)
    · show 256 + s.val = (1 + 1 * 0) * 256 + s.val; omega
    · show y2.val = 0 + 1 * y2.val; omega
  · rcases List.mem_cons.mp hpc with rfl | hpc
    · intro (y : S1x1x1024.Idx)
      idx_vars y
      obtain rfl : y0 = 0 := Subsingleton.elim _ _
      obtain rfl : y1 = 0 := Subsingleton.elim _ _
      refine (pay31_at _ _ _).trans ?_
      simp only [pay34_at]
      refine congrArg (Ideal.div · _) (Finset.sum_congr rfl fun s _ => ?_)
      refine (Finset.sum_congr rfl fun k _ => congrArg (_ * ·) (ld3_at x2 k y2)).trans ?_
      show proj (br x0 ⟨s.val, _⟩) (sc x1) (pm x2) (part 3 y2) = _
      refine congrArg₂ (fun (r : Fin 512) (q : Fin 1024) => proj (br x0 r) (sc x1) (pm x2) (part 3 q)) (Fin.ext ?_) (Fin.ext ?_)
      · show s.val = (0 + 1 * 0) * 256 + s.val; omega
      · show y2.val = 0 + 1 * y2.val; omega
    · simp at hpc

/-- The eight masked weight matrices. -/
theorem weight_at (g : Fin 8) (t s : Fin 128) :
    (![k0_pay38 (F := Ideal) x0 x1 x2 x3 x4 x5, k0_pay39 x0 x1 x2 x3 x4 x5, k0_pay41 x0 x1 x2 x3 x4 x5,
      k0_pay42 x0 x1 x2 x3 x4 x5, k0_pay43 x0 x1 x2 x3 x4 x5, k0_pay44 x0 x1 x2 x3 x4 x5, k0_pay45 x0 x1 x2 x3 x4 x5,
      k0_pay46 x0 x1 x2 x3 x4 x5] g) (ix2 t s) = if s ≤ t then x4 (ix3 g t s) else 0 := by
  match g with
  | ⟨0, _⟩ => exact (pay8_at _ t s).trans (congrArg (fun e => if s ≤ t then e else 0) (by pointwise []))
  | ⟨1, _⟩ => exact (pay9_at _ t s).trans (congrArg (fun e => if s ≤ t then e else 0) (by pointwise []))
  | ⟨2, _⟩ => exact (pay11_at _ t s).trans (congrArg (fun e => if s ≤ t then e else 0) (by pointwise []))
  | ⟨3, _⟩ => exact (pay12_at _ t s).trans (congrArg (fun e => if s ≤ t then e else 0) (by pointwise []))
  | ⟨4, _⟩ => exact (pay13_at _ t s).trans (congrArg (fun e => if s ≤ t then e else 0) (by pointwise []))
  | ⟨5, _⟩ => exact (pay14_at _ t s).trans (congrArg (fun e => if s ≤ t then e else 0) (by pointwise []))
  | ⟨6, _⟩ => exact (pay15_at _ t s).trans (congrArg (fun e => if s ≤ t then e else 0) (by pointwise []))
  | ⟨7, _⟩ => exact (pay16_at _ t s).trans (congrArg (fun e => if s ≤ t then e else 0) (by pointwise []))

/-- One chunk of 128 rows, beginning at row `o` of the block: the mixer over the chunk's rows. -/
theorem chunk_at (b : Fin 8 → Fin 128 → EReal) (hb : ∀ t j, x5 (ix2 t j) = b ⟨j.val / 128, by omega⟩ t)
    (o : Nat) (ho : o % 128 = 0) (ho' : o + 127 < 512) (t : Fin 128) (j : Fin 1024)
    (r : Fin 512) (hr : r.val = o + t.val) (q : Fin 128 → Fin 512) (hq : ∀ s, (q s).val = o + s.val) :
    k0_pay35 (F := Ideal) x0 x1 x2 x3 x4 x5 (ix2 r j) * ((∑ s : Fin 128,
      (![k0_pay38 (F := Ideal) x0 x1 x2 x3 x4 x5, k0_pay39 x0 x1 x2 x3 x4 x5, k0_pay41 x0 x1 x2 x3 x4 x5,
        k0_pay42 x0 x1 x2 x3 x4 x5, k0_pay43 x0 x1 x2 x3 x4 x5, k0_pay44 x0 x1 x2 x3 x4 x5, k0_pay45 x0 x1 x2 x3 x4 x5,
        k0_pay46 x0 x1 x2 x3 x4 x5] ⟨j.val / 128, by omega⟩) (ix2 t s)
          * k0_pay36 (F := Ideal) x0 x1 x2 x3 x4 x5 (ix2 (q s) j)) + k0_pay47 (F := Ideal) x0 x1 x2 x3 x4 x5 (ix2 t j))
      = mixer (fun s => br x0 ⟨r.val / 128 * 128 + s.val, by omega⟩) (sc x1) (pm x2) (sc x3) (fun g t s => x4 (ix3 g t s)) b
          ⟨r.val % 128, by omega⟩ j := by
  simp only [weight_at, pay35_at, pay36_at]
  have e47 : k0_pay47 (F := Ideal) x0 x1 x2 x3 x4 x5 (ix2 t j) = b ⟨j.val / 128, by omega⟩ t := by
    unfold k0_pay47
    rw [View.ld_unit_zero hz2]
    exact (pay17_at ..).trans (hb t j)
  have et : (⟨r.val % 128, by omega⟩ : Fin 128) = t := Fin.ext (by show r.val % 128 = t.val; omega)
  have eq' : ∀ s : Fin 128, (⟨r.val / 128 * 128 + s.val, by omega⟩ : Fin 512) = q s := fun s => Fin.ext (by
    show r.val / 128 * 128 + s.val = (q s).val; rw [hq]; omega)
  have er : r = q t := Fin.ext (by rw [hq, hr])
  rw [e47, mixer, et]
  simp only [eq', ← er]

/-- The mixer's block: four chunks of 128 rows, one store each. -/
theorem out6_at (b : Fin 8 → Fin 128 → EReal) (hb : ∀ t j, x5 (ix2 t j) = b ⟨j.val / 128, by omega⟩ t)
    (i : Fin 512) (j : Fin 1024) :
    out0_6 (F := Ideal) x0 x1 x2 x3 x4 x5 (ix2 i j)
      = mixer (fun s => br x0 ⟨i.val / 128 * 128 + s.val, by omega⟩) (sc x1) (pm x2) (sc x3) (fun g t s => x4 (ix3 g t s)) b
          ⟨i.val % 128, by omega⟩ j := by
  unfold out0_6
  refine View.canon_apply_of_pieces (Val := Elt Ideal) (e := .bf16) ((fun y : S512x1024.Idx =>
    mixer (fun s => br x0 ⟨(y 0).val / 128 * 128 + s.val, by have h : (y 0).val < 512 := (y 0).isLt; omega⟩) (sc x1) (pm x2) (sc x3) (fun g t s => x4 (ix3 g t s)) b
          ⟨(y 0).val % 128, by omega⟩ (y 1)) :
      S512x1024.Idx → Elt Ideal .bf16) _ ?_ _ (cover0_6 _ _ _ _ _)
  have fin : ∀ (r r' : Fin 512) (j j' : Fin 1024), r'.val = r.val → j'.val = j.val →
      mixer (fun s => br x0 ⟨r.val / 128 * 128 + s.val, by omega⟩) (sc x1) (pm x2) (sc x3) (fun g t s => x4 (ix3 g t s)) b
          ⟨r.val % 128, by omega⟩ j
        = mixer (fun s => br x0 ⟨r'.val / 128 * 128 + s.val, by omega⟩) (sc x1) (pm x2) (sc x3) (fun g t s => x4 (ix3 g t s)) b
          ⟨r'.val % 128, by omega⟩ j' := fun r r' j j' hr hj => by
    obtain rfl := Fin.ext hr; obtain rfl := Fin.ext hj; rfl
  intro pc hpc
  rcases List.mem_cons.mp hpc with rfl | hpc
  · intro (y : S128x1024.Idx)
    idx_vars y
    refine (pay27_at ..).trans ((chunk_at x0 x1 x2 x3 x4 x5 b hb 384 rfl (by omega) y0 y1 ⟨384 + y0.val, by omega⟩ rfl
      (fun s => ⟨384 + s.val, by omega⟩) (fun _ => rfl)).trans (fin _ _ _ _ ?_ ?_))
    · show 384 + 1 * y0.val = 384 + y0.val; omega
    · show 0 + 1 * y1.val = y1.val; omega
  rcases List.mem_cons.mp hpc with rfl | hpc
  · intro (y : S128x1024.Idx)
    idx_vars y
    refine (pay26_at ..).trans ((chunk_at x0 x1 x2 x3 x4 x5 b hb 256 rfl (by omega) y0 y1 ⟨256 + y0.val, by omega⟩ rfl
      (fun s => ⟨256 + s.val, by omega⟩) (fun _ => rfl)).trans (fin _ _ _ _ ?_ ?_))
    · show 256 + 1 * y0.val = 256 + y0.val; omega
    · show 0 + 1 * y1.val = y1.val; omega
  rcases List.mem_cons.mp hpc with rfl | hpc
  · intro (y : S128x1024.Idx)
    idx_vars y
    refine (pay23_at ..).trans ((chunk_at x0 x1 x2 x3 x4 x5 b hb 128 rfl (by omega) y0 y1 ⟨128 + y0.val, by omega⟩ rfl
      (fun s => ⟨128 + s.val, by omega⟩) (fun _ => rfl)).trans (fin _ _ _ _ ?_ ?_))
    · show 128 + 1 * y0.val = 128 + y0.val; omega
    · show 0 + 1 * y1.val = y1.val; omega
  rcases List.mem_cons.mp hpc with rfl | hpc
  · intro (y : S128x1024.Idx)
    idx_vars y
    refine (pay22_at ..).trans ((chunk_at x0 x1 x2 x3 x4 x5 b hb 0 rfl (by omega) y0 y1 ⟨y0.val, by omega⟩ (by simp)
      (fun s => ⟨s.val, by omega⟩) (fun _ => by simp)).trans (fin _ _ _ _ ?_ ?_))
    · show 0 + 1 * y0.val = y0.val; omega
    · show 0 + 1 * y1.val = y1.val; omega
  · simp at hpc

variable (m : (ℓ : Loc nD τ sig) → Buf (Elt Ideal) ℓ) (c : Dev nD)
open Idealize.ShloMosaic.TcCoe

theorem V0_at (R : Fin 32768) (k : Fin 1024) : (Gen.V m c main_v0 : Vec Ideal S32768x1024 .f32) (ix2 R k)
    = (m ((c : Thread nD τ).loc main_arg0) : Vec Ideal S8x4096x1024 .f32) (ix3 ⟨R.val / 4096, by omega⟩ ⟨R.val % 4096, by omega⟩ k) := by
  unfold Gen.V
  after_reads_at
theorem V4_at (R : Fin 128) (k : Fin 1024) : (Gen.V m c main_v4 : Vec Ideal S128x1024 .f32) (ix2 R k)
    = (m ((c : Thread nD τ).loc main_arg5) : Vec Ideal S1x8x128 .f32) (ix3 0 ⟨k.val / 128, by omega⟩ R) := by
  unfold Gen.V
  after_reads_at
theorem V6_at (k : Fin 1024) : (Gen.V m c main_v6 : Vec Ideal S1x1024 .f32) (ix2 0 k)
    = (m ((c : Thread nD τ).loc main_arg1) : Vec Ideal S1x1024 .f32) (ix2 0 k) := by
  unfold Gen.V
  after_reads_at
theorem V8_at (k : Fin 1024) (j : Fin 5120) : (Gen.V m c main_v8 : Vec Ideal S1024x5120 .bf16) (ix2 k j)
    = (m ((c : Thread nD τ).loc main_arg2) : Vec Ideal S1x1024x5120 .f32) (ix3 0 k j) := by
  unfold Gen.V
  after_reads_at
theorem V10_at (k : Fin 1024) : (Gen.V m c main_v10 : Vec Ideal S1x1024 .f32) (ix2 0 k)
    = (m ((c : Thread nD τ).loc main_arg3) : Vec Ideal S1x1024 .f32) (ix2 0 k) := by
  unfold Gen.V
  after_reads_at
theorem V11_at (g : Fin 8) (t s : Fin 128) : (Gen.V m c main_v11 : Vec Ideal S8x128x128 .f32) (ix3 g t s)
    = (m ((c : Thread nD τ).loc main_arg4) : Vec Ideal S1x8x128x128 .f32) (ix4 0 g t s) := by
  unfold Gen.V
  after_reads_at

end Cert.InprojIdeal.BlockValue

end
-- ==== Proof.InprojArrays.lean ====
/- THE FIVE RESULT ARRAYS of the projection kernel as functions of the arguments: what each grid point writes back is its
   block of one array, and the blocks cover the arrays. -/
module

public import proofs.«01_k».proof.Proof.InprojBlock

@[expose] public section

noncomputable section

namespace Cert.InprojIdeal.Arrays

open Cert.InprojIdeal Cert.InprojIdeal.Gen Cert.InprojIdeal.Value Cert.InprojIdeal.BlockValue Cert.Spec
open Idealize.ShloMosaic Idealize.ShloMosaic.TcCoe

set_option maxRecDepth 16384

variable (m : (ℓ : Loc nD τ sig) → Buf (Elt Ideal) ℓ) (c : Dev nD)

/-- The arguments, read row by row: the input's 32768 rows, the two scales, the projection, the mixing weights and biases. -/
abbrev X (R : Fin 32768) : Fin 1024 → EReal := fun k =>
  (m ((c : Thread nD τ).loc main_arg0) : Vec Ideal S8x4096x1024 .f32) (ix3 ⟨R.val / 4096, by omega⟩ ⟨R.val % 4096, by omega⟩ k)
abbrev Wn : Fin 1024 → EReal := fun k => (m ((c : Thread nD τ).loc main_arg1) : Vec Ideal S1x1024 .f32) (ix2 0 k)
abbrev Wp : Fin 1024 → Fin 5120 → EReal := fun k j => (m ((c : Thread nD τ).loc main_arg2) : Vec Ideal S1x1024x5120 .f32) (ix3 0 k j)
abbrev Wg : Fin 1024 → EReal := fun k => (m ((c : Thread nD τ).loc main_arg3) : Vec Ideal S1x1024 .f32) (ix2 0 k)
abbrev Ws : Fin 8 → Fin 128 → Fin 128 → EReal := fun g t s =>
  (m ((c : Thread nD τ).loc main_arg4) : Vec Ideal S1x8x128x128 .f32) (ix4 0 g t s)
abbrev Bs : Fin 8 → Fin 128 → EReal := fun g t => (m ((c : Thread nD τ).loc main_arg5) : Vec Ideal S1x8x128 .f32) (ix3 0 g t)

/-- The result arrays. -/
def G6 : Vec Ideal S32768x1024 .bf16 := fun i =>
  mixer (fun s => X m c ⟨(i 0).val / 128 * 128 + s.val, by have h : (i 0).val < 32768 := (i 0).isLt; omega⟩) (Wn m c) (Wp m c)
    (Wg m c) (Ws m c) (Bs m c) ⟨(i 0).val % 128, by omega⟩ (i 1)
def G7 : Vec Ideal S32768x1024 .bf16 := fun i =>
  proj (X m c (i 0)) (Wn m c) (Wp m c) (part 2 (i 1)) * Ideal.ofBits .f32 0x3E0293EE#32
def G8 : Vec Ideal S32768x1024 .bf16 := fun i => proj (X m c (i 0)) (Wn m c) (Wp m c) (part 3 (i 1))
def G9 : Vec Ideal S32768x1024 .bf16 := fun i => proj (X m c (i 0)) (Wn m c) (Wp m c) (part 4 (i 1))
def G10 : Vec Ideal S64x2x1024 .f32 := fun i =>
  keyMean (fun s => X m c ⟨((i 0).val * 2 + (i 1).val) * 256 + s.val, by
    have h : (i 0).val < 64 := (i 0).isLt; have h' : (i 1).val < 2 := (i 1).isLt; omega⟩) (Wn m c) (Wp m c) (i 2)

/-- The block indices at each point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)

theorem tlt (t : Fin cfg0.N) : t.val < 64 := t.isLt

/-- Row `i` of point `t`'s block of 512 rows. -/
abbrev row (t : Fin cfg0.N) (i : Fin 512) : Fin 32768 := ⟨t.val * 512 + i.val, by have := tlt t; omega⟩

/-- Where a block's index lies in its array. -/
theorem emb0 (t : Fin cfg0.N) (i : Fin 512) (k : Fin 1024) :
    ((cfg0.win 0).blk t).view.emb (ix2 i k : S512x1024.Idx) = (ix2 (row t i) k : S32768x1024.Idx) := by
  obtain ⟨e0, e1⟩ := idx0 t
  funext a; apply Fin.ext
  match a with
  | ⟨0, _⟩ => show win0_0.index t (0 : Fin 2) * 512 + 1 * i.val = t.val * 512 + i.val; omega
  | ⟨1, _⟩ => show win0_0.index t (1 : Fin 2) * 1024 + 1 * k.val = k.val; omega
theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem emb2 (t : Fin cfg0.N) (j : S1024x5120.Idx) : ((cfg0.win 2).blk t).view.emb j = j := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 5120 + 1 * (j 1).val = (j 1).val; omega
theorem emb3 (t : Fin cfg0.N) (j : S1x1024.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 1024 + 1 * (j 1).val = (j 1).val; omega
theorem emb4 (t : Fin cfg0.N) (j : S8x128x128.Idx) : ((cfg0.win 4).blk t).view.emb j = j := by
  obtain ⟨e0, e1, e2⟩ := idx4 t
  funext a; apply Fin.ext
  match a with
  | ⟨0, _⟩ => show win0_4.index t (0 : Fin 3) * 8 + 1 * (j 0).val = (j 0).val; omega
  | ⟨1, _⟩ => show win0_4.index t (1 : Fin 3) * 128 + 1 * (j 1).val = (j 1).val; omega
  | ⟨2, _⟩ => show win0_4.index t (2 : Fin 3) * 128 + 1 * (j 2).val = (j 2).val; omega
theorem emb5 (t : Fin cfg0.N) (j : S128x1024.Idx) : ((cfg0.win 5).blk t).view.emb j = j := by
  obtain ⟨e0, e1⟩ := idx5 t
  funext a; apply Fin.ext
  match a with
  | ⟨0, _⟩ => show win0_5.index t (0 : Fin 2) * 128 + 1 * (j 0).val = (j 0).val; omega
  | ⟨1, _⟩ => show win0_5.index t (1 : Fin 2) * 1024 + 1 * (j 1).val = (j 1).val; omega
theorem emb6 (t : Fin cfg0.N) (i : Fin 512) (k : Fin 1024) :
    ((cfg0.win 6).blk t).view.emb (ix2 i k : S512x1024.Idx) = (ix2 (row t i) k : S32768x1024.Idx) := by
  obtain ⟨e0, e1⟩ := idx6 t
  funext a; apply Fin.ext
  match a with
  | ⟨0, _⟩ => show win0_6.index t (0 : Fin 2) * 512 + 1 * i.val = t.val * 512 + i.val; omega
  | ⟨1, _⟩ => show win0_6.index t (1 : Fin 2) * 1024 + 1 * k.val = k.val; omega
theorem emb7 (t : Fin cfg0.N) (i : Fin 512) (k : Fin 1024) :
    ((cfg0.win 7).blk t).view.emb (ix2 i k : S512x1024.Idx) = (ix2 (row t i) k : S32768x1024.Idx) := by
  obtain ⟨e0, e1⟩ := idx7 t
  funext a; apply Fin.ext
  match a with
  | ⟨0, _⟩ => show win0_7.index t (0 : Fin 2) * 512 + 1 * i.val = t.val * 512 + i.val; omega
  | ⟨1, _⟩ => show win0_7.index t (1 : Fin 2) * 1024 + 1 * k.val = k.val; omega
theorem emb8 (t : Fin cfg0.N) (i : Fin 512) (k : Fin 1024) :
    ((cfg0.win 8).blk t).view.emb (ix2 i k : S512x1024.Idx) = (ix2 (row t i) k : S32768x1024.Idx) := by
  obtain ⟨e0, e1⟩ := idx8 t
  funext a; apply Fin.ext
  match a with
  | ⟨0, _⟩ => show win0_8.index t (0 : Fin 2) * 512 + 1 * i.val = t.val * 512 + i.val; omega
  | ⟨1, _⟩ => show win0_8.index t (1 : Fin 2) * 1024 + 1 * k.val = k.val; omega
theorem emb9 (t : Fin cfg0.N) (i : Fin 512) (k : Fin 1024) :
    ((cfg0.win 9).blk t).view.emb (ix2 i k : S512x1024.Idx) = (ix2 (row t i) k : S32768x1024.Idx) := by
  obtain ⟨e0, e1⟩ := idx9 t
  funext a; apply Fin.ext
  match a with
  | ⟨0, _⟩ => show win0_9.index t (0 : Fin 2) * 512 + 1 * i.val = t.val * 512 + i.val; omega
  | ⟨1, _⟩ => show win0_9.index t (1 : Fin 2) * 1024 + 1 * k.val = k.val; omega
theorem emb10 (t : Fin cfg0.N) (h : Fin 2) (k : Fin 1024) :
    ((cfg0.win 10).blk t).view.emb (ix3 0 h k : S1x2x1024.Idx) = (ix3 (⟨t.val, tlt t⟩ : Fin 64) h k : S64x2x1024.Idx) := by
  obtain ⟨e0, e1, e2⟩ := idx10 t
  funext a; apply Fin.ext
  match a with
  | ⟨0, _⟩ => show win0_10.index t (0 : Fin 3) * 1 + 1 * 0 = t.val; omega
  | ⟨1, _⟩ => show win0_10.index t (1 : Fin 3) * 2 + 1 * h.val = h.val; omega
  | ⟨2, _⟩ => show win0_10.index t (2 : Fin 3) * 1024 + 1 * k.val = k.val; omega

/-- The input blocks, by the arguments. -/
theorem blk0_eq (t : Fin cfg0.N) (i : Fin 512) : br (iblk m c 0 t) i = X m c (row t i) := by
  funext k
  show Gen.V m c main_v0 (((cfg0.win 0).blk t).view.emb (ix2 i k : S512x1024.Idx)) = _
  rw [emb0]; exact V0_at m c _ k
theorem blk1_eq (t : Fin cfg0.N) : sc (iblk m c 1 t) = Wn m c := by
  funext k
  show Gen.V m c main_v6 (((cfg0.win 1).blk t).view.emb (ix2 0 k : S1x1024.Idx)) = _
  rw [emb1]; exact V6_at m c k
theorem blk2_eq (t : Fin cfg0.N) : pm (iblk m c 2 t) = Wp m c := by
  funext k j
  show Gen.V m c main_v8 (((cfg0.win 2).blk t).view.emb (ix2 k j : S1024x5120.Idx)) = _
  rw [emb2]; exact V8_at m c k j
theorem blk3_eq (t : Fin cfg0.N) : sc (iblk m c 3 t) = Wg m c := by
  funext k
  show Gen.V m c main_v10 (((cfg0.win 3).blk t).view.emb (ix2 0 k : S1x1024.Idx)) = _
  rw [emb3]; exact V10_at m c k
theorem blk4_eq (t : Fin cfg0.N) :
    (fun g u s => (iblk m c 4 t : Vec Ideal S8x128x128 .f32) (ix3 g u s)) = Ws m c := by
  funext g u s
  show Gen.V m c main_v11 (((cfg0.win 4).blk t).view.emb (ix3 g u s : S8x128x128.Idx)) = _
  rw [emb4]; exact V11_at m c g u s
theorem blk5_eq (t : Fin cfg0.N) (u : Fin 128) (j : Fin 1024) :
    (iblk m c 5 t : Vec Ideal S128x1024 .f32) (ix2 u j) = Bs m c ⟨j.val / 128, by omega⟩ u := by
  show Gen.V m c main_v4 (((cfg0.win 5).blk t).view.emb (ix2 u j : S128x1024.Idx)) = _
  rw [emb5]; exact V4_at m c u j

/-- What each point writes back is its block of the result array. -/
theorem flushed6_eq (t : Fin cfg0.N) :
    (dats m 0 c).flushed 6 t = ((cfg0.win 6).blk t).view.read (Elt Ideal) (G6 m c) := by
  rw [flushed6]
  funext (j : S512x1024.Idx)
  idx_vars j
  show out0_6 (iblk m c 0 t) (iblk m c 1 t) (iblk m c 2 t) (iblk m c 3 t) (iblk m c 4 t) (iblk m c 5 t) (ix2 j0 j1)
    = G6 m c (((cfg0.win 6).blk t).view.emb (ix2 j0 j1 : S512x1024.Idx))
  rw [emb6, out6_at _ _ _ _ _ _ (Bs m c) (blk5_eq m c t)]
  simp only [blk0_eq, blk1_eq, blk2_eq, blk3_eq, blk4_eq]
  have e : ∀ s : Fin 128, row t ⟨j0.val / 128 * 128 + s.val, by omega⟩
      = ⟨(row t j0).val / 128 * 128 + s.val, by have := (row t j0).isLt; omega⟩ := fun s => Fin.ext (by
    show t.val * 512 + (j0.val / 128 * 128 + s.val) = (t.val * 512 + j0.val) / 128 * 128 + s.val; omega)
  have e' : (⟨j0.val % 128, by omega⟩ : Fin 128) = ⟨(row t j0).val % 128, by omega⟩ := Fin.ext (by
    show j0.val % 128 = (t.val * 512 + j0.val) % 128; omega)
  simp only [e, e']
  rfl
theorem flushed7_eq (t : Fin cfg0.N) :
    (dats m 0 c).flushed 7 t = ((cfg0.win 7).blk t).view.read (Elt Ideal) (G7 m c) := by
  rw [flushed7]
  funext (j : S512x1024.Idx)
  idx_vars j
  show out0_7 (iblk m c 0 t) (iblk m c 1 t) (iblk m c 2 t) (iblk m c 3 t) (iblk m c 4 t) (iblk m c 5 t) (ix2 j0 j1)
    = G7 m c (((cfg0.win 7).blk t).view.emb (ix2 j0 j1 : S512x1024.Idx))
  rw [emb7, out7_at]
  simp only [blk0_eq, blk1_eq, blk2_eq]
  rfl
theorem flushed8_eq (t : Fin cfg0.N) :
    (dats m 0 c).flushed 8 t = ((cfg0.win 8).blk t).view.read (Elt Ideal) (G8 m c) := by
  rw [flushed8]
  funext (j : S512x1024.Idx)
  idx_vars j
  show out0_8 (iblk m c 0 t) (iblk m c 1 t) (iblk m c 2 t) (iblk m c 3 t) (iblk m c 4 t) (iblk m c 5 t) (ix2 j0 j1)
    = G8 m c (((cfg0.win 8).blk t).view.emb (ix2 j0 j1 : S512x1024.Idx))
  rw [emb8, out8_at]
  simp only [blk0_eq, blk1_eq, blk2_eq]
  rfl
theorem flushed9_eq (t : Fin cfg0.N) :
    (dats m 0 c).flushed 9 t = ((cfg0.win 9).blk t).view.read (Elt Ideal) (G9 m c) := by
  rw [flushed9]
  funext (j : S512x1024.Idx)
  idx_vars j
  show out0_9 (iblk m c 0 t) (iblk m c 1 t) (iblk m c 2 t) (iblk m c 3 t) (iblk m c 4 t) (iblk m c 5 t) (ix2 j0 j1)
    = G9 m c (((cfg0.win 9).blk t).view.emb (ix2 j0 j1 : S512x1024.Idx))
  rw [emb9, out9_at]
  simp only [blk0_eq, blk1_eq, blk2_eq]
  rfl
theorem flushed10_eq (t : Fin cfg0.N) :
    (dats m 0 c).flushed 10 t = ((cfg0.win 10).blk t).view.read (Elt Ideal) (G10 m c) := by
  rw [flushed10]
  funext (j : S1x2x1024.Idx)
  idx_vars j
  obtain rfl : j0 = 0 := Subsingleton.elim _ _
  show out0_10 (iblk m c 0 t) (iblk m c 1 t) (iblk m c 2 t) (iblk m c 3 t) (iblk m c 4 t) (iblk m c 5 t) (ix3 0 j1 j2)
    = G10 m c (((cfg0.win 10).blk t).view.emb (ix3 0 j1 j2 : S1x2x1024.Idx))
  rw [emb10, out10_at]
  simp only [blk0_eq, blk1_eq, blk2_eq]
  have e : ∀ s : Fin 256, row t ⟨j1.val * 256 + s.val, by omega⟩
      = ⟨(t.val * 2 + j1.val) * 256 + s.val, by have := tlt t; omega⟩ := fun s => Fin.ext (by
    show t.val * 512 + (j1.val * 256 + s.val) = (t.val * 2 + j1.val) * 256 + s.val; omega)
  simp only [e]
  rfl

/-- The blocks cover the arrays. -/
theorem covered6 (i : S32768x1024.Idx) :
    ∃ t : Fin cfg0.N, (cfg0.win 6).flush t = true ∧ i ∈ ((cfg0.win 6).blk t).view.set := by
  idx_vars i
  refine ⟨(⟨i0.val / 512, by show i0.val / 512 < 64; omega⟩ : Fin cfg0.N), flush0_6 _, ?_⟩
  have h := ((cfg0.win 6).blk (⟨i0.val / 512, by show i0.val / 512 < 64; omega⟩ : Fin cfg0.N)).view.emb_mem_set
    (ix2 (⟨i0.val % 512, by omega⟩ : Fin 512) i1 : S512x1024.Idx)
  rw [emb6] at h
  rwa [show row (⟨i0.val / 512, by show i0.val / 512 < 64; omega⟩ : Fin cfg0.N) ⟨i0.val % 512, by omega⟩ = i0 from
    Fin.ext (by show i0.val / 512 * 512 + i0.val % 512 = i0.val; omega)] at h
theorem covered7 (i : S32768x1024.Idx) :
    ∃ t : Fin cfg0.N, (cfg0.win 7).flush t = true ∧ i ∈ ((cfg0.win 7).blk t).view.set := by
  idx_vars i
  refine ⟨(⟨i0.val / 512, by show i0.val / 512 < 64; omega⟩ : Fin cfg0.N), flush0_7 _, ?_⟩
  have h := ((cfg0.win 7).blk (⟨i0.val / 512, by show i0.val / 512 < 64; omega⟩ : Fin cfg0.N)).view.emb_mem_set
    (ix2 (⟨i0.val % 512, by omega⟩ : Fin 512) i1 : S512x1024.Idx)
  rw [emb7] at h
  rwa [show row (⟨i0.val / 512, by show i0.val / 512 < 64; omega⟩ : Fin cfg0.N) ⟨i0.val % 512, by omega⟩ = i0 from
    Fin.ext (by show i0.val / 512 * 512 + i0.val % 512 = i0.val; omega)] at h
theorem covered8 (i : S32768x1024.Idx) :
    ∃ t : Fin cfg0.N, (cfg0.win 8).flush t = true ∧ i ∈ ((cfg0.win 8).blk t).view.set := by
  idx_vars i
  refine ⟨(⟨i0.val / 512, by show i0.val / 512 < 64; omega⟩ : Fin cfg0.N), flush0_8 _, ?_⟩
  have h := ((cfg0.win 8).blk (⟨i0.val / 512, by show i0.val / 512 < 64; omega⟩ : Fin cfg0.N)).view.emb_mem_set
    (ix2 (⟨i0.val % 512, by omega⟩ : Fin 512) i1 : S512x1024.Idx)
  rw [emb8] at h
  rwa [show row (⟨i0.val / 512, by show i0.val / 512 < 64; omega⟩ : Fin cfg0.N) ⟨i0.val % 512, by omega⟩ = i0 from
    Fin.ext (by show i0.val / 512 * 512 + i0.val % 512 = i0.val; omega)] at h
theorem covered9 (i : S32768x1024.Idx) :
    ∃ t : Fin cfg0.N, (cfg0.win 9).flush t = true ∧ i ∈ ((cfg0.win 9).blk t).view.set := by
  idx_vars i
  refine ⟨(⟨i0.val / 512, by show i0.val / 512 < 64; omega⟩ : Fin cfg0.N), flush0_9 _, ?_⟩
  have h := ((cfg0.win 9).blk (⟨i0.val / 512, by show i0.val / 512 < 64; omega⟩ : Fin cfg0.N)).view.emb_mem_set
    (ix2 (⟨i0.val % 512, by omega⟩ : Fin 512) i1 : S512x1024.Idx)
  rw [emb9] at h
  rwa [show row (⟨i0.val / 512, by show i0.val / 512 < 64; omega⟩ : Fin cfg0.N) ⟨i0.val % 512, by omega⟩ = i0 from
    Fin.ext (by show i0.val / 512 * 512 + i0.val % 512 = i0.val; omega)] at h
theorem covered10 (i : S64x2x1024.Idx) :
    ∃ t : Fin cfg0.N, (cfg0.win 10).flush t = true ∧ i ∈ ((cfg0.win 10).blk t).view.set := by
  idx_vars i
  refine ⟨(⟨i0.val, i0.isLt⟩ : Fin cfg0.N), flush0_10 _, ?_⟩
  have h := ((cfg0.win 10).blk (⟨i0.val, i0.isLt⟩ : Fin cfg0.N)).view.emb_mem_set (ix3 0 i1 i2 : S1x2x1024.Idx)
  rwa [emb10] at h

/-- The result arrays after the run. -/
theorem final6 : (dats m 0 c).arrAt 6 cfg0.N = G6 m c :=
  (dats m 0 c).arrAt_eq_of_cover 6 (G6 m c) (fun t _ => flushed6_eq m c t) covered6
theorem final7 : (dats m 0 c).arrAt 7 cfg0.N = G7 m c :=
  (dats m 0 c).arrAt_eq_of_cover 7 (G7 m c) (fun t _ => flushed7_eq m c t) covered7
theorem final8 : (dats m 0 c).arrAt 8 cfg0.N = G8 m c :=
  (dats m 0 c).arrAt_eq_of_cover 8 (G8 m c) (fun t _ => flushed8_eq m c t) covered8
theorem final9 : (dats m 0 c).arrAt 9 cfg0.N = G9 m c :=
  (dats m 0 c).arrAt_eq_of_cover 9 (G9 m c) (fun t _ => flushed9_eq m c t) covered9
theorem final10 : (dats m 0 c).arrAt 10 cfg0.N = G10 m c :=
  (dats m 0 c).arrAt_eq_of_cover 10 (G10 m c) (fun t _ => flushed10_eq m c t) covered10

end Cert.InprojIdeal.Arrays

end
-- ==== Proof.InprojReference.lean ====
/- THE REFERENCE'S ARRAYS ROW BY ROW: each result of the mixer's reference, at an index, is the row function of
   InprojSpec.lean at the arguments' rows. Token `R` of the 32768 is row `R % 4096` of batch `R / 4096`. -/
module

public import proofs.«01_k».proof.Proof.Gen.InprojRefIdeal.Read
public import proofs.«01_k».proof.Proof.InprojSpec

@[expose] public section

noncomputable section

namespace Cert.InprojRefIdeal.RefValue

open Cert.InprojRefIdeal Cert.InprojRefIdeal.Read Idealize.ShloMosaic Cert.Spec

set_option maxRecDepth 16384

variable (x0 : (⟨S8x4096x1024, .f32⟩ : BufTy).Contents (Elt Ideal)) (x1 : (⟨S1x1024, .f32⟩ : BufTy).Contents (Elt Ideal))
  (x2 : (⟨S1x1024x5120, .f32⟩ : BufTy).Contents (Elt Ideal)) (x3 : (⟨S1x1024, .f32⟩ : BufTy).Contents (Elt Ideal))
  (x4 : (⟨S1x8x128x128, .f32⟩ : BufTy).Contents (Elt Ideal)) (x5 : (⟨S1x8x128, .f32⟩ : BufTy).Contents (Elt Ideal))

/-- Row `t` of batch `b` of the input. -/
abbrev xr (b : Fin 8) (t : Fin 4096) : Fin 1024 → EReal := fun k => x0 (ix3 b t k)
/-- Row `R` of the 32768 rows of the input, the batches one after another. -/
abbrev xf (R : Fin 32768) : Fin 1024 → EReal := fun k => x0 (ix3 ⟨R.val / 4096, by omega⟩ ⟨R.val % 4096, by omega⟩ k)
/-- The one row of a scale. -/
abbrev sc (x : (⟨S1x1024, .f32⟩ : BufTy).Contents (Elt Ideal)) : Fin 1024 → EReal := fun k => x (ix2 0 k)
/-- The projection matrix. -/
abbrev pm : Fin 1024 → Fin 5120 → EReal := fun k c => x2 (ix3 0 k c)

/-- The normed input. -/
theorem v13_at (b : Fin 8) (t : Fin 4096) (j : Fin 1024) :
    val_main_v13 (F := Ideal) x0 x1 (ix3 b t j) = rms (xr x0 b t) (sc x1) j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The projected input. -/
theorem v15_at (b : Fin 8) (t : Fin 4096) (c : Fin 5120) :
    val_main_v15 (F := Ideal) x0 x1 x2 (ix3 b t c) = proj (xr x0 b t) (sc x1) (pm x2) c := by
  pointwise [val_main_v15, val_main_v14]
  simp only [v13_at]
  rfl

theorem v33_at (b : Fin 8) (t : Fin 4096) (j : Fin 1024) :
    val_main_v33 (F := Ideal) x0 x1 x2 (ix3 b t j) = left (xr x0 b t) (sc x1) (pm x2) j := by
  pointwise [val_main_v33, val_main_v32, val_main_v31, val_main_v30, val_main_v29, val_main_v28, val_main_v27, val_main_v26,
    val_main_v25, val_main_v24, val_main_v23, val_main_v22, val_main_v21, val_main_v16, val_main_cst_2, val_main_cst_3,
    val_main_cst_4, val_main_cst_5]
  simp only [v15_at]
  rw [left, show part 0 j = ⟨j.val, by omega⟩ from Fin.ext (by simp)]
  rfl

theorem v46_at (b : Fin 8) (t : Fin 4096) (j : Fin 1024) :
    val_main_v46 (F := Ideal) x0 x1 x2 (ix3 b t j) = gelu (proj (xr x0 b t) (sc x1) (pm x2) (part 1 j)) := by
  pointwise [val_main_v46, val_main_v45, val_main_v44, val_main_v43, val_main_v42, val_main_v41, val_main_v40, val_main_v39,
    val_main_v38, val_main_v37, val_main_v36, val_main_v35, val_main_v34, val_main_v17, val_main_cst_6, val_main_cst_7,
    val_main_cst_8, val_main_cst_9]
  simp only [v15_at]
  rfl

theorem v60_at (b : Fin 8) (t : Fin 4096) (j : Fin 1024) :
    val_main_v60 (F := Ideal) x0 x1 x2 x3 (ix3 b t j) = right (xr x0 b t) (sc x1) (pm x2) (sc x3) j := by
  pointwise [val_main_v60, val_main_v59, val_main_v58, val_main_v57, val_main_v56, val_main_v55, val_main_v54, val_main_v53,
    val_main_v52, val_main_v51, val_main_v50, val_main_v49, val_main_v48, val_main_v47, val_main_cst_10, val_main_cst_11,
    val_main_cst_12]
  simp only [v46_at]
  rfl

/-- The mixing weight of the pair `(t, s)` in group `g`: zero above the diagonal. -/
theorem v66_at (g : Fin 8) (t s : Fin 128) :
    val_main_v66 (F := Ideal) x4 (ix3 g t s) = if s ≤ t then x4 (ix4 0 g t s) else 0 := by
  pointwise [val_main_v66, val_main_call1_v1, val_main_call1_v0, val_main_cst_13, val_main_v65, val_main_v64, val_main_v63,
    val_main_call0_v5, val_main_call0_c_0, val_main_call0_v4, val_main_call0_v3, val_main_call0_v2, val_main_call0_v1,
    val_main_call0_c, val_main_call0_v0, val_main_v62, val_main_c]
  have hw : IntOp.cmpi .sge (IntOp.addi (BitVec.ofNat 32 t.val) 0#32) (BitVec.ofNat 32 s.val) = if s ≤ t then 1#1 else 0#1 := by
    have ht : (BitVec.ofNat 32 t.val).toInt = t.val := by
      rw [BitVec.toInt_eq_toNat_of_lt (by simp [BitVec.toNat_ofNat]; omega), BitVec.toNat_ofNat]; omega
    have hs : (BitVec.ofNat 32 s.val).toInt = s.val := by
      rw [BitVec.toInt_eq_toNat_of_lt (by simp [BitVec.toNat_ofNat]; omega), BitVec.toNat_ofNat]; omega
    have h0 : IntOp.addi (BitVec.ofNat 32 t.val) 0#32 = BitVec.ofNat 32 t.val := by simp [IntOp.addi]
    rw [h0]
    simp only [IntOp.cmpi, BitVec.sle, hs, ht, Fin.le_def]
    by_cases h : s.val ≤ t.val <;> simp [h]
  rw [hw]
  by_cases h : s ≤ t
  · rw [if_pos h, if_pos h]; rfl
  · rw [if_neg h, if_neg h]; rfl

/-- The mixed and shifted operand at token `t`: group `j / 128` mixes the tokens of `t`'s chunk of 128 up to `t`. -/
theorem v74_at (b : Fin 8) (t : Fin 4096) (j : Fin 1024) :
    val_main_v74 (F := Ideal) x0 x1 x2 x3 x4 x5 (ix3 b t j)
      = (∑ s : Fin 128, (if s ≤ (⟨t.val % 128, by omega⟩ : Fin 128) then x4 (ix4 0 ⟨j.val / 128, by omega⟩ ⟨t.val % 128, by omega⟩ s) else 0)
          * right (xr x0 b ⟨t.val / 128 * 128 + s.val, by omega⟩) (sc x1) (pm x2) (sc x3) j)
        + x5 (ix3 0 ⟨j.val / 128, by omega⟩ ⟨t.val % 128, by omega⟩) := by
  pointwise [val_main_v74, val_main_v73, val_main_v72, val_main_v71, val_main_v70, val_main_v69, val_main_v68, val_main_v67, val_main_v61]
  simp only [v60_at, v66_at]
  refine congrArg (· + _) (Finset.sum_congr rfl fun s _ => mul_comm _ _)

/-- The reference's mixer. -/
theorem v81_at (R : Fin 32768) (j : Fin 1024) :
    val_main_v81 (F := Ideal) x0 x1 x2 x3 x4 x5 (ix2 R j)
      = mixer (fun s => xf x0 ⟨R.val / 128 * 128 + s.val, by omega⟩) (sc x1) (pm x2) (sc x3)
          (fun g t s => x4 (ix4 0 g t s)) (fun g t => x5 (ix3 0 g t)) ⟨R.val % 128, by omega⟩ j := by
  pointwise [val_main_v81, val_main_v80, val_main_v75]
  simp only [v74_at, v33_at]
  have e0 : (⟨R.val % 4096 % 128, by omega⟩ : Fin 128) = ⟨R.val % 128, by omega⟩ := Fin.ext (by show R.val % 4096 % 128 = R.val % 128; omega)
  have e1 : ∀ s : Fin 128, xr x0 ⟨R.val / 4096, by omega⟩ ⟨R.val % 4096 / 128 * 128 + s.val, by omega⟩
      = xf x0 ⟨R.val / 128 * 128 + s.val, by omega⟩ := fun s => by
    funext k
    exact congrArg x0 (congrArg₂ (fun a b => ix3 a b k) (Fin.ext (by simp; omega)) (Fin.ext (by simp; omega)))
  have e2 : xr x0 ⟨R.val / 4096, by omega⟩ ⟨R.val % 4096, by omega⟩
      = xf x0 ⟨R.val / 128 * 128 + R.val % 128, by omega⟩ := by
    funext k
    exact congrArg x0 (congrArg₂ (fun a b => ix3 a b k) (Fin.ext (by simp; omega)) (Fin.ext (by simp; omega)))
  simp only [e0, e1, e2]
  rfl

/-- The reference's queries, scaled. -/
theorem v85_at (R : Fin 32768) (j : Fin 1024) :
    val_main_v85 (F := Ideal) x0 x1 x2 (ix2 R j)
      = proj (xf x0 R) (sc x1) (pm x2) (part 2 j) * Ideal.ofBits .f32 0x3E0293EE#32 := by
  pointwise [val_main_v85, val_main_v84, val_main_v83, val_main_v82, val_main_v18, val_main_cst_16]
  simp only [v15_at]
  rfl

/-- The reference's keys. -/
theorem v87_at (R : Fin 32768) (j : Fin 1024) :
    val_main_v87 (F := Ideal) x0 x1 x2 (ix2 R j) = proj (xf x0 R) (sc x1) (pm x2) (part 3 j) := by
  pointwise [val_main_v87, val_main_v86, val_main_v19]
  simp only [v15_at]
  rfl

/-- The reference's values. -/
theorem v89_at (R : Fin 32768) (j : Fin 1024) :
    val_main_v89 (F := Ideal) x0 x1 x2 (ix2 R j) = proj (xf x0 R) (sc x1) (pm x2) (part 4 j) := by
  pointwise [val_main_v89, val_main_v88, val_main_v20]
  simp only [v15_at]
  rfl

/-- The reference's block means of the keys. -/
theorem v90_at (t : Fin 64) (h : Fin 2) (j : Fin 1024) :
    val_main_v90 (F := Ideal) x0 x1 x2 (ix3 t h j)
      = keyMean (fun s => xf x0 ⟨(t.val * 2 + h.val) * 256 + s.val, by omega⟩) (sc x1) (pm x2) j := by
  pointwise [val_main_v90, val_main_v79, val_main_v78, val_main_v77, val_main_v76, val_main_v19, val_main_cst_14, val_main_cst_15]
  simp only [v15_at]
  have e : ∀ s : Fin 256, xr x0 ⟨t.val / 8, by omega⟩ ⟨(t.val % 8 * 2 + h.val) * 256 + s.val, by omega⟩
      = xf x0 ⟨(t.val * 2 + h.val) * 256 + s.val, by omega⟩ := fun s => by
    funext k
    exact congrArg x0 (congrArg₂ (fun a b => ix3 a b k) (Fin.ext (by simp; omega)) (Fin.ext (by simp; omega)))
  simp only [e]
  rfl

end Cert.InprojRefIdeal.RefValue

end
-- ==== Proof.InprojClaim.lean ====
/- THE PROJECTION CALL'S CLAIMS: the three frames, and that the kernel's five result arrays are the reference's. -/
module

public import proofs.«01_k».proof.Defs
public import proofs.«01_k».proof.Proof.Gen.Inproj.Frame
public import proofs.«01_k».proof.Proof.Gen.InprojRefIdeal.Run
public import proofs.«01_k».proof.Proof.InprojArrays
public import proofs.«01_k».proof.Proof.InprojReference
public import Idealize.ShloMosaic.Lib.Quiescent

@[expose] public section

noncomputable section

namespace Cert.InprojClaim

open Idealize.ShloMosaic Idealize.ShloMosaic.TcCoe Idealize.SL.Sem

/-- The kernel runs, keeps its arguments and comes to rest, at the words. -/
theorem frame_kernel : Cert.quiescent_Inproj := fun m ρ _ => Cert.Inproj.Gen.frame m ρ

/-- The same over the extended reals. -/
theorem frame_ideal : Cert.quiescent_InprojIdeal := fun m ρ _ => Cert.InprojIdeal.Gen.frame m ρ

/-- The reference runs, keeps its arguments and comes to rest. -/
theorem frame_reference : Cert.quiescent_InprojRefIdeal := fun m ρ _ =>
  (θ_run Cert.InprojRefIdeal.defs _ _).mono
    (fun r h => ⟨fun c => (h c).2.2.2.2.2, Idealize.ShloMosaic.sem_eq_zero_of_no_sems (by decide) r.2⟩)
    (Cert.InprojRefIdeal.Value.run (F := Ideal) m ρ)

/-- The five result arrays are the reference's, at every argument. -/
theorem algebraic : Cert.algebraic_InprojIdeal_InprojRefIdeal := by
  intro m ρ m' ρ' _ hagree
  refine ⟨fun c => Cert.InprojIdeal.Arrays.G6 m c, fun c => Cert.InprojIdeal.Arrays.G7 m c,
    fun c => Cert.InprojIdeal.Arrays.G8 m c, fun c => Cert.InprojIdeal.Arrays.G9 m c,
    fun c => Cert.InprojIdeal.Arrays.G10 m c, ?_, ?_⟩
  · exact (θ_run Cert.InprojIdeal.defs _ _).mono (fun r h c =>
      ⟨(h c).1.trans (Cert.InprojIdeal.Arrays.final6 m c), (h c).2.1.trans (Cert.InprojIdeal.Arrays.final7 m c),
        (h c).2.2.1.trans (Cert.InprojIdeal.Arrays.final8 m c), (h c).2.2.2.1.trans (Cert.InprojIdeal.Arrays.final9 m c),
        (h c).2.2.2.2.1.trans (Cert.InprojIdeal.Arrays.final10 m c), (h c).2.2.2.2.2⟩)
      (Cert.InprojIdeal.Value.run_blocks (F := Ideal) m ρ)
  · refine (θ_run Cert.InprojRefIdeal.defs _ _).mono (fun r h c => ?_) (Cert.InprojRefIdeal.Value.run (F := Ideal) m' ρ')
    obtain ⟨a0, a1, a2, a3, a4, a5⟩ := hagree c
    obtain ⟨h0, h1, h2, h3, h4, hk⟩ := h c
    refine ⟨h0.trans ?_, h1.trans ?_, h2.trans ?_, h3.trans ?_, h4.trans ?_, hk⟩
    · refine (Cert.InprojRefIdeal.Read.val_main_v81_eq m' c).trans ?_
      funext (i : Cert.InprojRefIdeal.S32768x1024.Idx)
      idx_vars i
      rw [a0, a1, a2, a3, a4, a5]
      exact Cert.InprojRefIdeal.RefValue.v81_at _ _ _ _ _ _ i0 i1
    · refine (Cert.InprojRefIdeal.Read.val_main_v85_eq _ _ _).trans ?_
      funext (i : Cert.InprojRefIdeal.S32768x1024.Idx)
      idx_vars i
      rw [a0, a1, a2]
      exact Cert.InprojRefIdeal.RefValue.v85_at _ _ _ i0 i1
    · refine (Cert.InprojRefIdeal.Read.val_main_v87_eq _ _ _).trans ?_
      funext (i : Cert.InprojRefIdeal.S32768x1024.Idx)
      idx_vars i
      rw [a0, a1, a2]
      exact Cert.InprojRefIdeal.RefValue.v87_at _ _ _ i0 i1
    · refine (Cert.InprojRefIdeal.Read.val_main_v89_eq _ _ _).trans ?_
      funext (i : Cert.InprojRefIdeal.S32768x1024.Idx)
      idx_vars i
      rw [a0, a1, a2]
      exact Cert.InprojRefIdeal.RefValue.v89_at _ _ _ i0 i1
    · refine (Cert.InprojRefIdeal.Read.val_main_v90_eq _ _ _).trans ?_
      funext (i : Cert.InprojRefIdeal.S64x2x1024.Idx)
      idx_vars i
      rw [a0, a1, a2]
      exact Cert.InprojRefIdeal.RefValue.v90_at _ _ _ i0 i1 i2

end Cert.InprojClaim

end
-- ==== Proof.PostRun.lean ====
/- The merge and cross-attention kernel's body on any staging buffers: what its stores leave in the two float
   results' buffers, whatever the other results' buffers and the carried scratch row hold. -/
module

public import proofs.«01_k».proof.Proof.Gen.PostIdeal.Frame
public import proofs.«01_k».proof.Proof.Gen.PostIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.PostIdeal.Body

open Cert.PostIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The point is the grid's first one, as the kernel tests it. -/
abbrev first (i : grid0.Coords) : Prop :=
  (Scalar.cmpi .ne (Scalar.extui (Scalar.cmpi .eq (BitVec.ofNat 32 (i 0).val) 0#32)) 0#32) = 1#1

set_option maxHeartbeats 4000000 in
/-- The body run on whole staging buffers: from the inputs' buffers at `x0 … x15` and every other buffer at anything, it
    leaves the inputs as they were, the two float results with the pieces it stored (the lists are found by running it), and
    the other buffers at something. -/
noncomputable def run (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S512x1024 .bf16) (harg3 : arg3.IsWhole)
    (arg4 : Memref sig .tc .vmem S256x1024 .bf16) (harg4 : arg4.IsWhole)
    (arg5 : Memref sig .tc .vmem S1x1024 .f32) (harg5 : arg5.IsWhole)
    (arg6 : Memref sig .tc .vmem S1024x2048 .bf16) (harg6 : arg6.IsWhole)
    (arg7 : Memref sig .tc .vmem S1x2048 .f32) (harg7 : arg7.IsWhole)
    (arg8 : Memref sig .tc .vmem S1024x1024 .bf16) (harg8 : arg8.IsWhole)
    (arg9 : Memref sig .tc .vmem S1024x1024 .bf16) (harg9 : arg9.IsWhole)
    (arg10 : Memref sig .tc .vmem S1024x1024 .bf16) (harg10 : arg10.IsWhole)
    (arg11 : Memref sig .tc .vmem S1x1024 .f32) (harg11 : arg11.IsWhole)
    (arg12 : Memref sig .tc .vmem S1024x512 .bf16) (harg12 : arg12.IsWhole)
    (arg13 : Memref sig .tc .vmem S512x1024 .bf16) (harg13 : arg13.IsWhole)
    (arg14 : Memref sig .tc .vmem S1x1024 .f32) (harg14 : arg14.IsWhole)
    (arg15 : Memref sig .tc .vmem S1024x256 .bf16) (harg15 : arg15.IsWhole)
    (arg16 : Memref sig .tc .vmem S1x128 .f32) (harg16 : arg16.IsWhole)
    (arg17 : Memref sig .tc .vmem S512x1024 .f32) (harg17 : arg17.IsWhole)
    (arg18 : Memref sig .tc .vmem S4096x128 .f32) (harg18 : arg18.IsWhole)
    (arg19 : Memref sig .tc .vmem S512x128 .f32) (harg19 : arg19.IsWhole)
    (arg20 : Memref sig .tc .vmem S2x512 .i32) (harg20 : arg20.IsWhole)
    (arg21 : Memref sig .tc .vmem S1x128 .f32) (harg21 : arg21.IsWhole)
    (arg22 : Memref sig .tc .vmem S1x128 .f32) (harg22 : arg22.IsWhole)
    (x0 : Vec F S512x1024 .f32) (x1 : Vec F S512x1024 .bf16) (x2 : Vec F S512x1024 .bf16) (x3 : Vec F S256x1024 .bf16) (x4 : Vec F S1x1024 .f32) (x5 : Vec F S1024x2048 .bf16) (x6 : Vec F S1x2048 .f32) (x7 : Vec F S1024x1024 .bf16) (x8 : Vec F S1024x1024 .bf16) (x9 : Vec F S1024x1024 .bf16) (x10 : Vec F S1x1024 .f32) (x11 : Vec F S1024x512 .bf16) (x12 : Vec F S512x1024 .bf16) (x13 : Vec F S1x1024 .f32) (x14 : Vec F S1024x256 .bf16) (x15 : Vec F S1x128 .f32) :
    Σ' (L16 : List (View.Piece (Elt F) S512x1024 .f32)), { L17 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15
          ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15
            ∗ (∃ f, arg17.view.loc (c : Thread nD τ) ↦[arg17.view.set]{fullShare} arg17.view.writes (Elt F) f L16)
            ∗ (∃ f, arg18.view.loc (c : Thread nD τ) ↦[arg18.view.set]{fullShare} arg18.view.writes (Elt F) f L17)
            ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, fun E K => ?run⟩
  case run =>
    simp only [cc0_post_eq_skeleton]; unfold cc0_post_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    by_cases hc0 : first i
    · sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]; · iexists _; iexact H16
      isplitl [H17]; · iexists _; iexact H17
      isplitl [H18]
      · iexists _; iexists _; isplitr; swap; · iexact H18
        ipureintro; rfl
      isplitl [H19]
      · iexists _; iexists _; isplitr; swap; · iexact H19
        ipureintro; rfl
      isplitl [H20]
      · iexists _; iexists _; isplitr; swap; · iexact H20
        ipureintro; rfl
      iexists _; iexists _; isplitr; swap; · iexact H21
      ipureintro; rfl
    · sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]; · iexists _; iexact H16
      isplitl [H17]; · iexists _; iexact H17
      isplitl [H18]
      · iexists _; iexists _; isplitr; swap; · iexact H18
        ipureintro; rfl
      isplitl [H19]
      · iexists _; iexists _; isplitr; swap; · iexact H19
        ipureintro; rfl
      isplitl [H20]
      · iexists _; iexists _; isplitr; swap; · iexact H20
        ipureintro; rfl
      iexists _; iexists _; isplitr; swap; · iexact H21
      ipureintro; rfl

end Cert.PostIdeal.Body

end
-- ==== Proof.PostFrame.lean ====
/- The merge and cross-attention program's launch: the two float results' buffers are named at every point, the three
   routing results' buffers and the carried scratch row are left at anything; the body obligation, the run of the whole
   program, and its frame. -/
module

public import proofs.«01_k».proof.Proof.PostRun

@[expose] public section

set_option maxRecDepth 16384

noncomputable section

namespace Cert.PostIdeal.Body

open Cert.PostIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose RDat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers of a point -/

abbrev stg0 (t : Fin cfg0.N) : Memref sig .tc .vmem S512x1024 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S512x1024 .bf16 := win0_1.stage (cfg0.slots t 1)
abbrev hstg1 (t : Fin cfg0.N) : (stg1 t).IsWhole := hstage0_1 ((cfg0.slots t 1).cast nbuf0_1)
abbrev stg2 (t : Fin cfg0.N) : Memref sig .tc .vmem S512x1024 .bf16 := win0_2.stage (cfg0.slots t 2)
abbrev hstg2 (t : Fin cfg0.N) : (stg2 t).IsWhole := hstage0_2 ((cfg0.slots t 2).cast nbuf0_2)
abbrev stg3 (t : Fin cfg0.N) : Memref sig .tc .vmem S256x1024 .bf16 := win0_3.stage (cfg0.slots t 3)
abbrev hstg3 (t : Fin cfg0.N) : (stg3 t).IsWhole := hstage0_3 ((cfg0.slots t 3).cast nbuf0_3)
abbrev stg4 (t : Fin cfg0.N) : Memref sig .tc .vmem S1x1024 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1024x2048 .bf16 := win0_5.stage (cfg0.slots t 5)
abbrev hstg5 (t : Fin cfg0.N) : (stg5 t).IsWhole := hstage0_5 ((cfg0.slots t 5).cast nbuf0_5)
abbrev stg6 (t : Fin cfg0.N) : Memref sig .tc .vmem S1x2048 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S1024x1024 .bf16 := win0_7.stage (cfg0.slots t 7)
abbrev hstg7 (t : Fin cfg0.N) : (stg7 t).IsWhole := hstage0_7 ((cfg0.slots t 7).cast nbuf0_7)
abbrev stg8 (t : Fin cfg0.N) : Memref sig .tc .vmem S1024x1024 .bf16 := win0_8.stage (cfg0.slots t 8)
abbrev hstg8 (t : Fin cfg0.N) : (stg8 t).IsWhole := hstage0_8 ((cfg0.slots t 8).cast nbuf0_8)
abbrev stg9 (t : Fin cfg0.N) : Memref sig .tc .vmem S1024x1024 .bf16 := win0_9.stage (cfg0.slots t 9)
abbrev hstg9 (t : Fin cfg0.N) : (stg9 t).IsWhole := hstage0_9 ((cfg0.slots t 9).cast nbuf0_9)
abbrev stg10 (t : Fin cfg0.N) : Memref sig .tc .vmem S1x1024 .f32 := win0_10.stage (cfg0.slots t 10)
abbrev hstg10 (t : Fin cfg0.N) : (stg10 t).IsWhole := hstage0_10 ((cfg0.slots t 10).cast nbuf0_10)
abbrev stg11 (t : Fin cfg0.N) : Memref sig .tc .vmem S1024x512 .bf16 := win0_11.stage (cfg0.slots t 11)
abbrev hstg11 (t : Fin cfg0.N) : (stg11 t).IsWhole := hstage0_11 ((cfg0.slots t 11).cast nbuf0_11)
abbrev stg12 (t : Fin cfg0.N) : Memref sig .tc .vmem S512x1024 .bf16 := win0_12.stage (cfg0.slots t 12)
abbrev hstg12 (t : Fin cfg0.N) : (stg12 t).IsWhole := hstage0_12 ((cfg0.slots t 12).cast nbuf0_12)
abbrev stg13 (t : Fin cfg0.N) : Memref sig .tc .vmem S1x1024 .f32 := win0_13.stage (cfg0.slots t 13)
abbrev hstg13 (t : Fin cfg0.N) : (stg13 t).IsWhole := hstage0_13 ((cfg0.slots t 13).cast nbuf0_13)
abbrev stg14 (t : Fin cfg0.N) : Memref sig .tc .vmem S1024x256 .bf16 := win0_14.stage (cfg0.slots t 14)
abbrev hstg14 (t : Fin cfg0.N) : (stg14 t).IsWhole := hstage0_14 ((cfg0.slots t 14).cast nbuf0_14)
abbrev stg15 (t : Fin cfg0.N) : Memref sig .tc .vmem S1x128 .f32 := win0_15.stage (cfg0.slots t 15)
abbrev hstg15 (t : Fin cfg0.N) : (stg15 t).IsWhole := hstage0_15 ((cfg0.slots t 15).cast nbuf0_15)
abbrev stg16 (t : Fin cfg0.N) : Memref sig .tc .vmem S512x1024 .f32 := win0_16.stage (cfg0.slots t 16)
abbrev hstg16 (t : Fin cfg0.N) : (stg16 t).IsWhole := hstage0_16 ((cfg0.slots t 16).cast nbuf0_16)
abbrev stg17 (t : Fin cfg0.N) : Memref sig .tc .vmem S4096x128 .f32 := win0_17.stage (cfg0.slots t 17)
abbrev hstg17 (t : Fin cfg0.N) : (stg17 t).IsWhole := hstage0_17 ((cfg0.slots t 17).cast nbuf0_17)
abbrev stg18 (t : Fin cfg0.N) : Memref sig .tc .vmem S512x128 .f32 := win0_18.stage (cfg0.slots t 18)
abbrev hstg18 (t : Fin cfg0.N) : (stg18 t).IsWhole := hstage0_18 ((cfg0.slots t 18).cast nbuf0_18)
abbrev stg19 (t : Fin cfg0.N) : Memref sig .tc .vmem S2x512 .i32 := win0_19.stage (cfg0.slots t 19)
abbrev hstg19 (t : Fin cfg0.N) : (stg19 t).IsWhole := hstage0_19 ((cfg0.slots t 19).cast nbuf0_19)
abbrev stg20 (t : Fin cfg0.N) : Memref sig .tc .vmem S1x128 .f32 := win0_20.stage (cfg0.slots t 20)
abbrev hstg20 (t : Fin cfg0.N) : (stg20 t).IsWhole := hstage0_20 ((cfg0.slots t 20).cast nbuf0_20)
/-- The scratch row the kernel carries from point to point. -/
abbrev scratch : Memref sig .tc .vmem S1x128 .f32 := Memref.whole cc0_scratch0

/-- The body's run at point `t`: on the point's staging buffers, the inputs at their blocks. -/
abbrev ran (c : Dev nD) (t : Fin cfg0.N) :=
  run c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) (stg11 t) (hstg11 t) (stg12 t) (hstg12 t) (stg13 t) (hstg13 t) (stg14 t) (hstg14 t) (stg15 t) (hstg15 t) (stg16 t) (hstg16 t) (stg17 t) (hstg17 t) (stg18 t) (hstg18 t) (stg19 t) (hstg19 t) (stg20 t) (hstg20 t) scratch (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The two stores of the merged rows tile their buffer. -/
theorem cover16 (c : Dev nD) (t : Fin cfg0.N) (y : S512x1024.Idx) : ∃ pc ∈ (ran m c t).1, y ∈ pc.1.set :=
  View.cover_of_tiledL (ran m c t).1 S256x1024.size (by sl_kernel_rfl) y

/-- The sixteen strided stores of the normed rows cover their buffer: row `8 r + j` of a half is row `r` of the store that
    starts at row `j` of that half. -/
theorem cover17 (c : Dev nD) (t : Fin cfg0.N) (y : S4096x128.Idx) : ∃ pc ∈ (ran m c t).2.1, y ∈ pc.1.set := by
  have h0 : (y 0).val < 4096 := (y 0).isLt
  have hc : ((y 0).val < 2048 ∨ 2048 ≤ (y 0).val) := by omega
  have hj : ((y 0).val % 8 = 0 ∨ (y 0).val % 8 = 1 ∨ (y 0).val % 8 = 2 ∨ (y 0).val % 8 = 3 ∨ (y 0).val % 8 = 4
    ∨ (y 0).val % 8 = 5 ∨ (y 0).val % 8 = 6 ∨ (y 0).val % 8 = 7) := by omega
  unfold ran run
  dsimp only
  rcases hc with hc | hc

  · rcases hj with hj | hj | hj | hj | hj | hj | hj | hj
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), ?_⟩
      rw [LoadRect.mem_set]; intro a
      match a with
      | ⟨0, _⟩ => exact ⟨(y 0).val / 8, by show (y 0).val / 8 < 256; omega, by show (y 0).val = 0 + 8 * ((y 0).val / 8); omega⟩
      | ⟨1, _⟩ => exact ⟨(y 1).val, (y 1).isLt, by show (y 1).val = 0 + 1 * (y 1).val; omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), ?_⟩
      rw [LoadRect.mem_set]; intro a
      match a with
      | ⟨0, _⟩ => exact ⟨(y 0).val / 8, by show (y 0).val / 8 < 256; omega, by show (y 0).val = 1 + 8 * ((y 0).val / 8); omega⟩
      | ⟨1, _⟩ => exact ⟨(y 1).val, (y 1).isLt, by show (y 1).val = 0 + 1 * (y 1).val; omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), ?_⟩
      rw [LoadRect.mem_set]; intro a
      match a with
      | ⟨0, _⟩ => exact ⟨(y 0).val / 8, by show (y 0).val / 8 < 256; omega, by show (y 0).val = 2 + 8 * ((y 0).val / 8); omega⟩
      | ⟨1, _⟩ => exact ⟨(y 1).val, (y 1).isLt, by show (y 1).val = 0 + 1 * (y 1).val; omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), ?_⟩
      rw [LoadRect.mem_set]; intro a
      match a with
      | ⟨0, _⟩ => exact ⟨(y 0).val / 8, by show (y 0).val / 8 < 256; omega, by show (y 0).val = 3 + 8 * ((y 0).val / 8); omega⟩
      | ⟨1, _⟩ => exact ⟨(y 1).val, (y 1).isLt, by show (y 1).val = 0 + 1 * (y 1).val; omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ?_⟩
      rw [LoadRect.mem_set]; intro a
      match a with
      | ⟨0, _⟩ => exact ⟨(y 0).val / 8, by show (y 0).val / 8 < 256; omega, by show (y 0).val = 4 + 8 * ((y 0).val / 8); omega⟩
      | ⟨1, _⟩ => exact ⟨(y 1).val, (y 1).isLt, by show (y 1).val = 0 + 1 * (y 1).val; omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ?_⟩
      rw [LoadRect.mem_set]; intro a
      match a with
      | ⟨0, _⟩ => exact ⟨(y 0).val / 8, by show (y 0).val / 8 < 256; omega, by show (y 0).val = 5 + 8 * ((y 0).val / 8); omega⟩
      | ⟨1, _⟩ => exact ⟨(y 1).val, (y 1).isLt, by show (y 1).val = 0 + 1 * (y 1).val; omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩
      rw [LoadRect.mem_set]; intro a
      match a with
      | ⟨0, _⟩ => exact ⟨(y 0).val / 8, by show (y 0).val / 8 < 256; omega, by show (y 0).val = 6 + 8 * ((y 0).val / 8); omega⟩
      | ⟨1, _⟩ => exact ⟨(y 1).val, (y 1).isLt, by show (y 1).val = 0 + 1 * (y 1).val; omega⟩
    · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩
      rw [LoadRect.mem_set]; intro a
      match a with
      | ⟨0, _⟩ => exact ⟨(y 0).val / 8, by show (y 0).val / 8 < 256; omega, by show (y 0).val = 7 + 8 * ((y 0).val / 8); omega⟩
      | ⟨1, _⟩ => exact ⟨(y 1).val, (y 1).isLt, by show (y 1).val = 0 + 1 * (y 1).val; omega⟩
  · rcases hj with hj | hj | hj | hj | hj | hj | hj | hj
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
      rw [LoadRect.mem_set]; intro a
      match a with
      | ⟨0, _⟩ => exact ⟨(y 0).val / 8 - 256, by show (y 0).val / 8 - 256 < 256; omega, by show (y 0).val = 2048 + 8 * ((y 0).val / 8 - 256); omega⟩
      | ⟨1, _⟩ => exact ⟨(y 1).val, (y 1).isLt, by show (y 1).val = 0 + 1 * (y 1).val; omega⟩
    · refine ⟨_, List.mem_cons_of_mem _ (List.mem_cons_of_mem _ (List.mem_cons_of_mem _ (List.mem_cons_of_mem _ (List.mem_cons_of_mem _ (List.mem_cons_of_mem _ (List.mem_cons_self)))))), ?_⟩
      rw [LoadRect.mem_set]; intro a
      match a with
      | ⟨0, _⟩ => exact ⟨(y 0).val / 8 - 256, by show (y 0).val / 8 - 256 < 256; omega, by show (y 0).val = 2049 + 8 * ((y 0).val / 8 - 256); omega⟩
      | ⟨1, _⟩ => exact ⟨(y 1).val, (y 1).isLt, by show (y 1).val = 0 + 1 * (y 1).val; omega⟩
    · refine ⟨_, List.mem_cons_of_mem _ (List.mem_cons_of_mem _ (List.mem_cons_of_mem _ (List.mem_cons_of_mem _ (List.mem_cons_of_mem _ (List.mem_cons_self))))), ?_⟩
      rw [LoadRect.mem_set]; intro a
      match a with
      | ⟨0, _⟩ => exact ⟨(y 0).val / 8 - 256, by show (y 0).val / 8 - 256 < 256; omega, by show (y 0).val = 2050 + 8 * ((y 0).val / 8 - 256); omega⟩
      | ⟨1, _⟩ => exact ⟨(y 1).val, (y 1).isLt, by show (y 1).val = 0 + 1 * (y 1).val; omega⟩
    · refine ⟨_, List.mem_cons_of_mem _ (List.mem_cons_of_mem _ (List.mem_cons_of_mem _ (List.mem_cons_of_mem _ (List.mem_cons_self)))), ?_⟩
      rw [LoadRect.mem_set]; intro a
      match a with
      | ⟨0, _⟩ => exact ⟨(y 0).val / 8 - 256, by show (y 0).val / 8 - 256 < 256; omega, by show (y 0).val = 2051 + 8 * ((y 0).val / 8 - 256); omega⟩
      | ⟨1, _⟩ => exact ⟨(y 1).val, (y 1).isLt, by show (y 1).val = 0 + 1 * (y 1).val; omega⟩
    · refine ⟨_, List.mem_cons_of_mem _ (List.mem_cons_of_mem _ (List.mem_cons_of_mem _ (List.mem_cons_self))), ?_⟩
      rw [LoadRect.mem_set]; intro a
      match a with
      | ⟨0, _⟩ => exact ⟨(y 0).val / 8 - 256, by show (y 0).val / 8 - 256 < 256; omega, by show (y 0).val = 2052 + 8 * ((y 0).val / 8 - 256); omega⟩
      | ⟨1, _⟩ => exact ⟨(y 1).val, (y 1).isLt, by show (y 1).val = 0 + 1 * (y 1).val; omega⟩
    · refine ⟨_, List.mem_cons_of_mem _ (List.mem_cons_of_mem _ (List.mem_cons_self)), ?_⟩
      rw [LoadRect.mem_set]; intro a
      match a with
      | ⟨0, _⟩ => exact ⟨(y 0).val / 8 - 256, by show (y 0).val / 8 - 256 < 256; omega, by show (y 0).val = 2053 + 8 * ((y 0).val / 8 - 256); omega⟩
      | ⟨1, _⟩ => exact ⟨(y 1).val, (y 1).isLt, by show (y 1).val = 0 + 1 * (y 1).val; omega⟩
    · refine ⟨_, List.mem_cons_of_mem _ (List.mem_cons_self), ?_⟩
      rw [LoadRect.mem_set]; intro a
      match a with
      | ⟨0, _⟩ => exact ⟨(y 0).val / 8 - 256, by show (y 0).val / 8 - 256 < 256; omega, by show (y 0).val = 2054 + 8 * ((y 0).val / 8 - 256); omega⟩
      | ⟨1, _⟩ => exact ⟨(y 1).val, (y 1).isLt, by show (y 1).val = 0 + 1 * (y 1).val; omega⟩
    · refine ⟨_, List.mem_cons_self, ?_⟩
      rw [LoadRect.mem_set]; intro a
      match a with
      | ⟨0, _⟩ => exact ⟨(y 0).val / 8 - 256, by show (y 0).val / 8 - 256 < 256; omega, by show (y 0).val = 2055 + 8 * ((y 0).val / 8 - 256); omega⟩
      | ⟨1, _⟩ => exact ⟨(y 1).val, (y 1).isLt, by show (y 1).val = 0 + 1 * (y 1).val; omega⟩

/-! ## What a point leaves -/

/-- The merged rows' buffer after point `t`. -/
def out16 (c : Dev nD) (t : Fin cfg0.N) : Vec F S512x1024 .f32 := View.canon (Val := Elt F) (e := .f32) (ran m c t).1

/-- The normed rows' buffer after point `t`. -/
def out17 (c : Dev nD) (t : Fin cfg0.N) : Vec F S4096x128 .f32 := View.canon (Val := Elt F) (e := .f32) (ran m c t).2.1

/-- The windows whose contents are not named: the routing results. -/
abbrev unnamedWin (w : Fin cfg0.W) : Bool := Nat.ble 18 w.val

/-- The proof data on core `c`: the arrays as the launch finds them; after a point each input's buffer at its block, the two
    float results' buffers at `out16` and `out17`, the rest at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 m c t
    | ⟨17, _⟩ => out17 m c t
    | ⟨18, _⟩ => Dat.unnamed 18 t
    | ⟨19, _⟩ => Dat.unnamed 19 t
    | ⟨20, _⟩ => Dat.unnamed 20 t
    | ⟨_ + 21, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = out16 m c t := by dsimp only [dats]
theorem after17 (c : Dev nD) (t : Fin cfg0.N) : (dats m 0 c).after 17 t = out17 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d

/-- The launch's invariant: the scratch row at anything, the generator register at some state. -/
theorem PhiA_eq (c : Dev nD) :
    (Pipeline.ΦA spec0 c : sProp 𝕄)
      = iprop((∃ d, owns (c : Thread nD τ) scratch fullShare d) ∗ (∃ r, prngReg c r)) := by
  unfold Pipeline.ΦA; rw [scopedRest0_eq]; simp only [scratch, owns_whole]; try rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare ((dats m 0 c).before 13 t d))
    ∗ (∃ d, owns (c : Thread nD τ) (stg14 t) fullShare ((dats m 0 c).before 14 t d))
    ∗ (∃ d, owns (c : Thread nD τ) (stg15 t) fullShare ((dats m 0 c).before 15 t d))
    ∗ (∃ d, owns (c : Thread nD τ) (stg16 t) fullShare ((dats m 0 c).before 16 t d))
    ∗ (∃ d, owns (c : Thread nD τ) (stg17 t) fullShare ((dats m 0 c).before 17 t d))
    ∗ (∃ d, owns (c : Thread nD τ) (stg18 t) fullShare d)
    ∗ (∃ d, owns (c : Thread nD τ) (stg19 t) fullShare d)
    ∗ (∃ d, owns (c : Thread nD τ) (stg20 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ owns (c : Thread nD τ) (stg13 t) fullShare ((dats m 0 c).after 13 t)
    ∗ owns (c : Thread nD τ) (stg14 t) fullShare ((dats m 0 c).after 14 t)
    ∗ owns (c : Thread nD τ) (stg15 t) fullShare ((dats m 0 c).after 15 t)
    ∗ owns (c : Thread nD τ) (stg16 t) fullShare ((dats m 0 c).after 16 t)
    ∗ owns (c : Thread nD τ) (stg17 t) fullShare ((dats m 0 c).after 17 t)
    ∗ (∃ d, owns (c : Thread nD τ) (stg18 t) fullShare d)
    ∗ (∃ d, owns (c : Thread nD τ) (stg19 t) fullShare d)
    ∗ (∃ d, owns (c : Thread nD τ) (stg20 t) fullShare d))

set_option maxHeartbeats 16000000 in
/-- The body at any point: the inputs' buffers hold their blocks, so the run applies; its pieces cover the two float results'
    buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).owesAt () t.succ = (dats m 0 c).owesAt () t.castSucc from rfl,
    after0, after1, after2, after3, after4, after5, after6, after7, after8, after9, after10, after11, after12, after13, after14, after15, after16, after17,
    show (dats m 0 c).Φ t.succ = Pipeline.ΦA spec0 c from rfl, show (dats m 0 c).Φ t.castSucc = Pipeline.ΦA spec0 c from rfl, PhiA_eq]
  unfold out16 out17
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, H18, H19, H20⟩
  iapply ((ran m c t).2.2 _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [H19]; · iexact H19
  isplitl [H20]; · iexact H20
  isplitl [HS]; · iexact HS
  iintro ⟨H0, H1, H2, H3, H4, H5, H6, H7, H8, H9, H10, H11, H12, H13, H14, H15, ⟨%e16, H16⟩, ⟨%e17, H17⟩, H18, H19, H20, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro
    exact (View.read_writes_of_cover _ _ (stg16 t).view _ _ (cover16 m c t)).trans (View.read_writes_junk_eq_canon _ _)
  isplitl [H17]
  · unfold owns; iexists _; isplitr
    swap; · iexact H17
    ipureintro
    exact (View.read_writes_of_cover _ _ (stg17 t).view _ _ (cover17 m c t)).trans (View.read_writes_junk_eq_canon _ _)
  isplitl [H18]; · iexact H18
  isplitl [H19]; · iexact H19
  iexact H20

/-- The body table's row at point `t`'s slots is the body there. -/
theorem defs_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    BodyObligation (dats (F := F) m 0 c) (defs₀ (F := F)) Variants.none () Set.univ unnamedWin := fun t => by
  rw [bigSep_W0, bigSep_W0, defs_row]
  exact triple_restated (sound_body m c t) rfl .rfl fun _ => .rfl

/-! ## The run and the frame -/

/-- What the run ends in: the arrays of the named windows at what the proof data computes, the other buffers as found. -/
abbrev Ends (r : PUnit × MemSt nD τ sig (Elt F)) : Prop :=
  RDat.FramePost cfg0 (fun c => (dats m 0 c).toRForget unnamedWin) (V m) r

set_option backward.isDefEq.respectTransparency.types false in
/-- The whole program from any memory with zero counters: it ends, as `Ends` says, with every counter at zero. -/
theorem run_main : θ_run defs (onTc (τ := τ) (main (F := F))) (s₀ m ρ)
    (fun r => Ends m r ∧ r.2.sem = fun _ => 0) :=
  Pipeline.θ_run_frame_forget (Q' := _) cfgs (dats m) (0 : Fin 1) launch0 defs₀ Variants.none unnamedWin m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began. -/
theorem unchanged {r : PUnit × MemSt nD τ sig (Elt F)} (h : Ends m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17) :=
  ⟨((h c).2 main_arg0 (Pipeline.mem_restRefs_of main_arg0 (by decide) (by decide))).trans (V_main_arg0 m c),
    (RDat.FramePost.arr_in h c 1 rfl).trans ((A_eq m c 1).trans (V_main_arg1 m c)),
    (RDat.FramePost.arr_in h c 2 rfl).trans ((A_eq m c 2).trans (V_main_arg2 m c)),
    (RDat.FramePost.arr_in h c 3 rfl).trans ((A_eq m c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c)⟩

end Cert.PostIdeal.Body

end
-- ==== Proof.PostSpec.lean ====
/- THE MERGE AND CROSS-ATTENTION ROW BY ROW, in plain words: what the second call computes for one token, as functions
   over the extended reals. The attention is written twice: divided once after the weighted sum, as the kernel has it,
   and as a softmax whose weights multiply the values, as the reference has it. The two agree where the scores are
   real numbers, and the scores are real numbers where the arguments are. -/
module

public import proofs.«01_k».proof.Proof.InprojSpec
public import Mathlib.Data.EReal.Inv

@[expose] public section

noncomputable section

namespace Cert.Spec

open Idealize.ShloMosaic

/-! ## One token -/

/-- A row times a matrix, at column `c`. -/
def vec {n k : Nat} (x : Fin n → EReal) (W : Fin n → Fin k → EReal) (c : Fin k) : EReal := ∑ i, x i * W i c

/-- The gate of column `c` (two gates per column of the model, one after the other). -/
def gate (x w : Fin 1024 → EReal) (G : Fin 1024 → Fin 2048 → EReal) (b : Fin 2048 → EReal) (c : Fin 2048) : EReal :=
  Ideal.logistic (vec (rms x w) G c + b c)

/-- The two branches, gated and added. -/
def merged (x s a w : Fin 1024 → EReal) (G : Fin 1024 → Fin 2048 → EReal) (b : Fin 2048 → EReal)
    (A B : Fin 1024 → Fin 1024 → EReal) (k : Fin 1024) : EReal :=
  gate x w G b ⟨k.val, by omega⟩ * vec s A k + gate x w G b ⟨1024 + k.val, by omega⟩ * vec a B k

/-- The first residual. -/
def hid (x s a w : Fin 1024 → EReal) (G : Fin 1024 → Fin 2048 → EReal) (b : Fin 2048 → EReal)
    (A B O : Fin 1024 → Fin 1024 → EReal) (j : Fin 1024) : EReal :=
  x j + vec (merged x s a w G b A B) O j

/-- The attention's scale, 128 to the power -1/2, as the float word says it. -/
abbrev scale : EReal := Ideal.ofBits .f32 0x3DB504F3#32

/-- Column `d` of the head that column `c` of the 512 lies in. -/
abbrev col (c : Fin 512) (d : Fin 128) : Fin 512 := ⟨128 * (c.val / 128) + d.val, by omega⟩
/-- A column of the keys, the first half of the memory's columns. -/
abbrev keyCol (c : Fin 512) : Fin 1024 := ⟨c.val, by omega⟩
/-- A column of the values, the second half. -/
abbrev valCol (c : Fin 512) : Fin 1024 := ⟨512 + c.val, by omega⟩

/-- The greatest of 256 scores. -/
def top (s : Fin 256 → EReal) : EReal :=
  Finset.fold max (Ideal.ofBits .f32 0xFF800000#32) s Finset.univ

/-- The attention with one division: the weighted sum of the values over the sum of the weights. -/
def attend (s v : Fin 256 → EReal) : EReal :=
  Ideal.div (∑ m, Ideal.exp (s m - top s) * v m) (∑ m, Ideal.exp (s m - top s))

/-- The attention as a softmax that multiplies the values. -/
def attendSoft (s v : Fin 256 → EReal) : EReal :=
  ∑ m, v m * Ideal.div (Ideal.exp (s m - top s)) (∑ m, Ideal.exp (s m - top s))

/-- The scores for column `c`, from scaled queries. -/
def scores (h n : Fin 1024 → EReal) (Q : Fin 1024 → Fin 512 → EReal) (kv : Fin 256 → Fin 1024 → EReal) (c : Fin 512)
    (m : Fin 256) : EReal :=
  ∑ d, vec (rms h n) Q (col c d) * scale * kv m (keyCol (col c d))

/-- The scores for column `c`, scaled after the product. -/
def scoresAfter (h n : Fin 1024 → EReal) (Q : Fin 1024 → Fin 512 → EReal) (kv : Fin 256 → Fin 1024 → EReal)
    (c : Fin 512) (m : Fin 256) : EReal :=
  (∑ d, vec (rms h n) Q (col c d) * kv m (keyCol (col c d))) * scale

/-- The second residual, over the first one `h`. -/
def cross (h n : Fin 1024 → EReal) (Q : Fin 1024 → Fin 512 → EReal) (kv : Fin 256 → Fin 1024 → EReal)
    (X : Fin 512 → Fin 1024 → EReal) (j : Fin 1024) : EReal :=
  h j + vec (fun c => attend (scores h n Q kv c) (fun m => kv m (valCol c))) X j

/-- The second residual with the reference's softmax. -/
def crossSoft (h n : Fin 1024 → EReal) (Q : Fin 1024 → Fin 512 → EReal) (kv : Fin 256 → Fin 1024 → EReal)
    (X : Fin 512 → Fin 1024 → EReal) (j : Fin 1024) : EReal :=
  h j + vec (fun c => attendSoft (scoresAfter h n Q kv c) (fun m => kv m (valCol c))) X j

/-! ## Real numbers among the extended reals -/

/-- The value is a real number. -/
def IsReal (a : EReal) : Prop := ∃ r : ℝ, a = r

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sum {ι : Type} (t : Finset ι) {f : ι → EReal} (h : ∀ i, IsReal (f i)) : IsReal (∑ i ∈ t, f i) := by
  classical
  induction t using Finset.induction_on with
  | empty => exact ⟨0, by simp⟩
  | insert i t hi ih => rw [Finset.sum_insert hi]; exact (h i).add ih
theorem coe_sum {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]
theorem IsReal.vec {n k : Nat} {x : Fin n → EReal} {W : Fin n → Fin k → EReal} (hx : ∀ i, IsReal (x i))
    (hW : ∀ i c, IsReal (W i c)) (c : Fin k) : IsReal (vec x W c) :=
  IsReal.sum _ fun i => (hx i).mul (hW i c)

theorem width : Ideal.ofBits .f32 0x44800000#32 = ((1024 : ℝ) : EReal) := by
  simp [Ideal.ofBits, Ideal.ieee, -EReal.coe_mul]; norm_num
theorem small : ∃ e : ℝ, 0 < e ∧ Ideal.ofBits .f32 0x358637BD#32 = (e : EReal) :=
  ⟨8796093 / 2 ^ 43, by norm_num, by simp [Ideal.ofBits, Ideal.ieee, -EReal.coe_mul]; norm_num⟩
theorem scale_eq : ∃ e : ℝ, 0 < e ∧ scale = (e : EReal) :=
  ⟨11863283 / 2 ^ 27, by norm_num, by simp [scale, Ideal.ofBits, Ideal.ieee, -EReal.coe_mul]; norm_num⟩
theorem lowest : Ideal.ofBits .f32 0xFF800000#32 = ⊥ := by
  simp [Ideal.ofBits, Ideal.ieee]

/-- The root's argument is a positive real for a real row. -/
theorem meanSq_real {x : Fin 1024 → EReal} (hx : ∀ k, IsReal (x k)) : ∃ r : ℝ, 0 < r ∧ meanSq x = r := by
  obtain ⟨e, he, hs⟩ := small
  choose f hf using hx
  refine ⟨(∑ k, f k * f k) * (1 / 1024) + e, ?_, ?_⟩
  · have : 0 ≤ ∑ k, f k * f k := Finset.sum_nonneg fun k _ => mul_self_nonneg _
    positivity
  · rw [meanSq, width, hs, Ideal.div_coe (by norm_num)]
    have : (∑ k, x k * x k) = ((∑ k, f k * f k : ℝ) : EReal) := by
      rw [coe_sum]
      exact Finset.sum_congr rfl fun k _ => by rw [hf, EReal.coe_mul]
    rw [this, ← EReal.coe_mul, ← EReal.coe_add]

theorem IsReal.rms {x w : Fin 1024 → EReal} (hx : ∀ k, IsReal (x k)) (hw : ∀ k, IsReal (w k)) (j : Fin 1024) :
    IsReal (rms x w j) := by
  obtain ⟨r, hr, h⟩ := meanSq_real hx
  refine ((hx j).mul ?_).mul (hw j)
  rw [h]
  refine ⟨(Real.sqrt r)⁻¹, ?_⟩
  show (if r < 0 then (⊥ : EReal) else if r = 0 then ⊤ else ((Real.sqrt r)⁻¹ : ℝ)) = _
  rw [if_neg (by linarith), if_neg (by linarith)]

theorem IsReal.logistic {a : EReal} (ha : IsReal a) : IsReal (Ideal.logistic a) := by
  obtain ⟨r, rfl⟩ := ha
  have h : (1 : EReal) + Ideal.exp (-(r : EReal)) = ((1 + Real.exp (-r) : ℝ) : EReal) := by
    rw [EReal.coe_add, ← EReal.coe_neg]; rfl
  rw [Ideal.logistic, h, Ideal.div_coe (by positivity)]
  exact IsReal.mul ⟨1, rfl⟩ ⟨_, rfl⟩

section
variable {x s a w : Fin 1024 → EReal} {G : Fin 1024 → Fin 2048 → EReal} {b : Fin 2048 → EReal}
  {A B O : Fin 1024 → Fin 1024 → EReal} (hx : ∀ k, IsReal (x k)) (hs : ∀ k, IsReal (s k)) (ha : ∀ k, IsReal (a k))
  (hw : ∀ k, IsReal (w k)) (hG : ∀ k c, IsReal (G k c)) (hb : ∀ c, IsReal (b c)) (hA : ∀ k c, IsReal (A k c))
  (hB : ∀ k c, IsReal (B k c)) (hO : ∀ k c, IsReal (O k c))

include hx hs ha hw hG hb hA hB hO in
/-- The first residual of real arguments is real. -/
theorem IsReal.hid (j : Fin 1024) : IsReal (hid x s a w G b A B O j) :=
  (hx j).add (IsReal.vec (fun k =>
    (((IsReal.vec (IsReal.rms hx hw) hG _).add (hb _)).logistic.mul (IsReal.vec hs hA k)).add
      (((IsReal.vec (IsReal.rms hx hw) hG _).add (hb _)).logistic.mul (IsReal.vec ha hB k))) hO j)
end

theorem IsReal.scores {h n : Fin 1024 → EReal} {Q : Fin 1024 → Fin 512 → EReal} {kv : Fin 256 → Fin 1024 → EReal}
    (hh : ∀ k, IsReal (h k)) (hn : ∀ k, IsReal (n k)) (hQ : ∀ k c, IsReal (Q k c)) (hk : ∀ m c, IsReal (kv m c))
    (c : Fin 512) (m : Fin 256) : IsReal (scores h n Q kv c m) := by
  obtain ⟨e, -, he⟩ := scale_eq
  exact IsReal.sum _ fun d => ((IsReal.vec (IsReal.rms hh hn) hQ _).mul ⟨e, he⟩).mul (hk _ _)

/-! ## The two attentions agree -/

/-- A nonnegative real goes into a sum. -/
theorem sum_mul_real {ι : Type} (t : Finset ι) (f : ι → EReal) {r : ℝ} (hr : 0 ≤ r) :
    (∑ i ∈ t, f i) * (r : EReal) = ∑ i ∈ t, f i * (r : EReal) := by
  classical
  induction t using Finset.induction_on with
  | empty => simp
  | insert i t hi ih =>
    rw [Finset.sum_insert hi, Finset.sum_insert hi,
      EReal.right_distrib_of_nonneg_of_ne_top (EReal.coe_nonneg.mpr hr) (EReal.coe_ne_top r), ih]

/-- Scaling the queries is scaling the scores. -/
theorem scores_eq (h n : Fin 1024 → EReal) (Q : Fin 1024 → Fin 512 → EReal) (kv : Fin 256 → Fin 1024 → EReal)
    (c : Fin 512) : scoresAfter h n Q kv c = scores h n Q kv c := by
  obtain ⟨e, he, hs⟩ := scale_eq
  funext m
  rw [scoresAfter, scores, hs, sum_mul_real _ _ he.le]
  exact Finset.sum_congr rfl fun d _ => mul_right_comm _ _ _

/-- The greatest of real scores is real. -/
theorem IsReal.top {s : Fin 256 → EReal} (hs : ∀ m, IsReal (s m)) : IsReal (top s) := by
  have h : Cert.Spec.top s = Finset.univ.sup s := by rw [Cert.Spec.top, lowest]; rfl
  obtain ⟨i, -, hi⟩ := Finset.exists_mem_eq_sup Finset.univ ⟨0, Finset.mem_univ _⟩ s
  rw [h, hi]; exact hs i

/-- Where the scores are real, dividing the weighted sum is weighting by the softmax. -/
theorem attend_eq {s : Fin 256 → EReal} (hs : ∀ m, IsReal (s m)) (v : Fin 256 → EReal) : attend s v = attendSoft s v := by
  obtain ⟨M, hM⟩ := IsReal.top hs
  choose f hf using hs
  have he : ∀ m, Ideal.exp (s m - top s) = ((Real.exp (f m - M) : ℝ) : EReal) := fun m => by
    rw [hM, hf, ← EReal.coe_sub]; rfl
  have hL : (∑ m, Ideal.exp (s m - top s)) = ((∑ m, Real.exp (f m - M) : ℝ) : EReal) := by
    rw [coe_sum]; exact Finset.sum_congr rfl fun m _ => he m
  have hp : 0 < ∑ m, Real.exp (f m - M) := Finset.sum_pos (fun m _ => Real.exp_pos _) ⟨0, Finset.mem_univ _⟩
  rw [attend, attendSoft, hL, Ideal.div_coe hp.ne', sum_mul_real _ _ (by positivity)]
  refine Finset.sum_congr rfl fun m _ => ?_
  rw [Ideal.div_coe hp.ne', mul_comm (Ideal.exp _) (v m), mul_assoc]

/-- The second residual is the same with either attention, for real arguments. -/
theorem cross_eq {h n : Fin 1024 → EReal} {Q : Fin 1024 → Fin 512 → EReal} {kv : Fin 256 → Fin 1024 → EReal}
    (hh : ∀ k, IsReal (h k)) (hn : ∀ k, IsReal (n k)) (hQ : ∀ k c, IsReal (Q k c)) (hk : ∀ m c, IsReal (kv m c))
    (X : Fin 512 → Fin 1024 → EReal) (j : Fin 1024) : crossSoft h n Q kv X j = cross h n Q kv X j := by
  rw [crossSoft, cross]
  refine congrArg (h j + vec · X j) (funext fun c => ?_)
  rw [scores_eq, attend_eq (IsReal.scores hh hn hQ hk c)]

end Cert.Spec

end
-- ==== Proof.PostKernel.lean ====
/- THE KERNEL'S TWO SUB-TILES ROW BY ROW: each is 256 rows of the block, and each value the body computes is, at an
   index, the row function of PostSpec.lean. The second sub-tile is cut into stages at other places than the first. -/
module

public import proofs.«01_k».proof.Proof.Gen.PostIdeal.Skeleton
public import proofs.«01_k».proof.Proof.PostSpec

@[expose] public section

noncomputable section

namespace Cert.PostIdeal.BlockValue

open Cert.PostIdeal Cert.PostIdeal.Gen Idealize.ShloMosaic Cert.Spec

set_option maxRecDepth 16384

/-- A row of a sub-tile. -/
abbrev row (x : Vec Ideal S256x1024 .f32) (i : Fin 256) : Fin 1024 → EReal := fun k => x (ix2 i k)
/-- The same of a sub-tile of the branches. -/
abbrev rowb (x : Vec Ideal S256x1024 .bf16) (i : Fin 256) : Fin 1024 → EReal := fun k => x (ix2 i k)
/-- The one row of a scale. -/
abbrev sc (x : Vec Ideal S1x1024 .f32) : Fin 1024 → EReal := fun k => x (ix2 0 k)
abbrev gw (x : Vec Ideal S1024x2048 .bf16) : Fin 1024 → Fin 2048 → EReal := fun k c => x (ix2 k c)
abbrev gb (x : Vec Ideal S1x2048 .f32) : Fin 2048 → EReal := fun c => x (ix2 0 c)
abbrev sq (x : Vec Ideal S1024x1024 .bf16) : Fin 1024 → Fin 1024 → EReal := fun k c => x (ix2 k c)
abbrev qw (x : Vec Ideal S1024x512 .bf16) : Fin 1024 → Fin 512 → EReal := fun k c => x (ix2 k c)
abbrev ow (x : Vec Ideal S512x1024 .bf16) : Fin 512 → Fin 1024 → EReal := fun k c => x (ix2 k c)

variable (x0 : Vec Ideal S256x1024 .f32) (x1 x2 : Vec Ideal S256x1024 .bf16)
  (x4 : Vec Ideal S1x1024 .f32) (x5 : Vec Ideal S1024x2048 .bf16) (x6 : Vec Ideal S1x2048 .f32)
  (x7 x8 x9 : Vec Ideal S1024x1024 .bf16) (x10 : Vec Ideal S1x1024 .f32) (x11 : Vec Ideal S1024x512 .bf16)
  (x12 : Vec Ideal S512x1024 .bf16)

/-- The first residual of a row. -/
abbrev hidr (i : Fin 256) : Fin 1024 → EReal :=
  hid (row x0 i) (rowb x1 i) (rowb x2 i) (sc x4) (gw x5) (gb x6) (sq x7) (sq x8) (sq x9)

/-! ## The first sub-tile up to the queries -/

/-- The gates. -/
theorem pay4_at (i : Fin 256) (c : Fin 2048) :
    k0_pay4 (F := Ideal) x0 x4 x5 x6 (ix2 i c) = gate (row x0 i) (sc x4) (gw x5) (gb x6) c := by
  pointwise [k0_pay4, k0_pay3]
  rfl

/-- The first residual. -/
theorem pay5_at (i : Fin 256) (j : Fin 1024) :
    k0_pay5 (F := Ideal) (k0_pay3 x0) (k0_pay4 x0 x4 x5 x6) x1 x7 x2 x8 x9 (ix2 i j) = hidr x0 x1 x2 x4 x5 x6 x7 x8 x9 i j := by
  pointwise [k0_pay5, k0_pay3]
  simp only [pay4_at]
  rfl

/-- The scaled queries. -/
theorem pay6_at (i : Fin 256) (c : Fin 512) :
    k0_pay6 (F := Ideal) (k0_pay3 x0) (k0_pay4 x0 x4 x5 x6) x1 x7 x2 x8 x9 x10 x11 (ix2 i c)
      = vec (rms (hidr x0 x1 x2 x4 x5 x6 x7 x8 x9 i) (sc x10)) (qw x11) c * scale := by
  pointwise [k0_pay6]
  simp only [pay5_at]
  rfl

/-! ## The second sub-tile up to the queries -/

theorem pay53_at (i : Fin 256) (j : Fin 1024) :
    k0_pay53 (F := Ideal) (k0_pay51 x0) (k0_pay52 x0 x4 x5) x6 x1 x7 x2 x8 x9 (ix2 i j) = hidr x0 x1 x2 x4 x5 x6 x7 x8 x9 i j := by
  pointwise [k0_pay53, k0_pay52, k0_pay51]
  rfl

theorem pay55_at (i : Fin 256) (c : Fin 512) :
    k0_pay55 (F := Ideal) (k0_pay54 (k0_pay51 x0) (k0_pay52 x0 x4 x5) x6 x1 x7 x2 x8 x9 x10) x11 (ix2 i c)
      = vec (rms (hidr x0 x1 x2 x4 x5 x6 x7 x8 x9 i) (sc x10)) (qw x11) c * scale := by
  pointwise [k0_pay55, k0_pay54]
  simp only [pay53_at]
  rfl

/-! ## The four heads -/

/-- The scores of head `h` of row `i`, from the scaled queries and the head's keys. -/
def hs (q : FVec Ideal S256x512 .bf16) (k : Vec Ideal S256x128 .bf16) (h : Fin 4) (i m : Fin 256) : EReal :=
  ∑ e : Fin 128, q (ix2 i ⟨128 * h.val + e.val, by omega⟩) * k (ix2 m e)

/-- Column `d` of head `h`'s output for row `i`. -/
def head (q : FVec Ideal S256x512 .bf16) (k v : Vec Ideal S256x128 .bf16) (h : Fin 4) (i : Fin 256) (d : Fin 128) : EReal :=
  attend (hs q k h i) (fun m => v (ix2 m d))

variable (h1 : FVec Ideal S256x1024 .f32) (q : FVec Ideal S256x512 .bf16) (q0 : FVec Ideal S256x128 .bf16)
  (K V : Fin 4 → Vec Ideal S256x128 .bf16)

theorem pay8_at (hq : ∀ i e, q0 (ix2 i e) = q (ix2 i ⟨128 * (0 : Fin 4).val + e.val, by show 128 * 0 + e.val < 512; omega⟩)) (i : Fin 256) (d : Fin 128) :
    k0_pay8 (F := Ideal) q0 (K 0) (constant S256x256 .f32 0x00000000#32) (V 0) (ix2 i d) = head q (K 0) (V 0) 0 i d := by
  pointwise [k0_pay8]
  simp only [hq]
  rfl

theorem pay9_at (i : Fin 256) (d : Fin 128) : k0_pay9 (F := Ideal) q (K 1) (V 1) (ix2 i d) = head q (K 1) (V 1) 1 i d := by
  pointwise [k0_pay9]
  rfl

theorem pay10_at (i m : Fin 256) :
    k0_pay10 (F := Ideal) q (K 2) (ix2 i m) = Ideal.exp (hs q (K 2) 2 i m - top (hs q (K 2) 2 i)) := by
  pointwise [k0_pay10]
  rfl

/-- Four pieces of 128 columns side by side, read at column `c`. -/
theorem ladder4 (c : Fin 512) (C : Fin 4 → Fin 128 → EReal) :
    (if h : c.val < 128 then C 0 ⟨c.val, h⟩
      else if h : c.val - 128 < 128 then C 1 ⟨c.val - 128, h⟩
      else if h : c.val - 128 - 128 < 128 then C 2 ⟨c.val - 128 - 128, h⟩
      else C 3 ⟨c.val - 128 - 128 - 128, by omega⟩)
      = C ⟨c.val / 128, by omega⟩ ⟨c.val % 128, by omega⟩ := by
  split_ifs
  all_goals exact congrArg₂ C (Fin.ext (by simp; omega)) (Fin.ext (by simp; try omega))

/-- The heads side by side: column `c` is column `c % 128` of head `c / 128`. -/
def heads (i : Fin 256) (c : Fin 512) : EReal :=
  head q (K ⟨c.val / 128, by omega⟩) (V ⟨c.val / 128, by omega⟩) ⟨c.val / 128, by omega⟩ i ⟨c.val % 128, by omega⟩

variable (o0 o1 : FVec Ideal S256x128 .bf16) (h0 : ∀ i d, o0 (ix2 i d) = head q (K 0) (V 0) 0 i d)
  (h1' : ∀ i d, o1 (ix2 i d) = head q (K 1) (V 1) 1 i d)
include h0 h1'

/-- The second residual from the first, the first sub-tile. -/
theorem pay12_at (i : Fin 256) (j : Fin 1024) :
    k0_pay12 (F := Ideal) h1 q o0 o1 (k0_pay10 q (K 2)) (k0_pay11 q (K 2)) (V 2) (constant S256x128 .f32 0x00000000#32) (K 3) (V 3) x12 (ix2 i j)
      = h1 (ix2 i j) + vec (heads q K V i) (ow x12) j := by
  pointwise [k0_pay12, k0_pay11]
  simp only [pay10_at, h0, h1']
  refine congrArg (h1 (ix2 i j) + ·) (Finset.sum_congr rfl fun c _ => ?_)
  exact congrArg (· * x12 (ix2 c j)) (ladder4 c fun h d => head q (K h) (V h) h i d)

/-- The same in the second sub-tile, whose third head enters as its queries. -/
theorem pay59_at (q2 : FVec Ideal S256x128 .bf16)
    (h2 : ∀ i e, q2 (ix2 i e) = q (ix2 i ⟨128 * (2 : Fin 4).val + e.val, by show 128 * 2 + e.val < 512; omega⟩))
    (i : Fin 256) (j : Fin 1024) :
    k0_pay59 (F := Ideal) h1 q o0 o1 q2 (K 2) (constant S256x256 .f32 0x00000000#32) (V 2) (K 3) (V 3) x12 (ix2 i j)
      = h1 (ix2 i j) + vec (heads q K V i) (ow x12) j := by
  pointwise [k0_pay59]
  simp only [h2, h0, h1']
  refine congrArg (h1 (ix2 i j) + ·) (Finset.sum_congr rfl fun c _ => ?_)
  exact congrArg (· * x12 (ix2 c j)) (ladder4 c fun h d => head q (K h) (V h) h i d)

omit h0 h1'

theorem pay7_at (i : Fin 256) (e : Fin 128) :
    k0_pay7 (F := Ideal) (k0_pay3 x0) (k0_pay4 x0 x4 x5 x6) x1 x7 x2 x8 x9 x10 x11 (ix2 i e)
      = k0_pay6 (F := Ideal) (k0_pay3 x0) (k0_pay4 x0 x4 x5 x6) x1 x7 x2 x8 x9 x10 x11
          (ix2 i ⟨128 * (0 : Fin 4).val + e.val, by show 128 * 0 + e.val < 512; omega⟩) := by
  pointwise [k0_pay7]

variable (u : FVec Ideal S256x1024 .bf16)

theorem pay58_at (i : Fin 256) (e : Fin 128) :
    k0_pay58 (F := Ideal) u x11 (ix2 i e)
      = k0_pay55 (F := Ideal) u x11 (ix2 i ⟨128 * (2 : Fin 4).val + e.val, by show 128 * 2 + e.val < 512; omega⟩) := by
  pointwise [k0_pay58]

theorem pay56_at (i : Fin 256) (d : Fin 128) :
    k0_pay56 (F := Ideal) u x11 (K 0) (V 0) (ix2 i d) = head (k0_pay55 (F := Ideal) u x11) (K 0) (V 0) 0 i d := by
  pointwise [k0_pay56]
  have e0 (m : Fin 256) : hs (k0_pay55 (F := Ideal) u x11) (K 0) 0 i m
      = ∑ e : Fin 128, k0_pay55 (F := Ideal) u x11 (ix2 i ⟨e.val, by omega⟩) * K 0 (ix2 m e) :=
    Finset.sum_congr rfl fun e _ => congrArg (fun c => k0_pay55 (F := Ideal) u x11 (ix2 i c) * K 0 (ix2 m e))
      (Fin.ext (by show 128 * 0 + e.val = e.val; omega))
  simp only [head, attend, top, funext e0]

theorem pay57_at (i : Fin 256) (d : Fin 128) :
    k0_pay57 (F := Ideal) u x11 (K 1) (V 1) (ix2 i d) = head (k0_pay55 (F := Ideal) u x11) (K 1) (V 1) 1 i d := by
  pointwise [k0_pay57]
  rfl

/-! ## The memory cross-attention -/

/-- Where the queries are the scaled projection of the normed residual and the keys and the values are the heads'
    columns of the memory, a head's column is the attention of PostSpec.lean. -/
theorem heads_eq (H n : Fin 1024 → EReal) (Q : Fin 1024 → Fin 512 → EReal) (kv : Fin 256 → Fin 1024 → EReal) (i : Fin 256)
    (hq : ∀ c, q (ix2 i c) = vec (rms H n) Q c * scale)
    (hK : ∀ h m e, K h (ix2 m e) = kv m ⟨128 * h.val + e.val, by omega⟩)
    (hV : ∀ h m d, V h (ix2 m d) = kv m ⟨512 + (128 * h.val + d.val), by omega⟩) (c : Fin 512) :
    heads q K V i c = attend (scores H n Q kv c) (fun m => kv m (valCol c)) := by
  unfold heads head
  refine congrArg₂ attend (funext fun m => Finset.sum_congr rfl fun e _ => ?_) (funext fun m => ?_)
  · rw [hq, hK]
  · rw [hV]
    exact congrArg (kv m) (Fin.ext (by show 512 + (128 * (c.val / 128) + c.val % 128) = 512 + c.val; omega))

variable (kv : Fin 256 → Fin 1024 → EReal)
  (hK : ∀ h m e, K h (ix2 m e) = kv m ⟨128 * h.val + e.val, by omega⟩)
  (hV : ∀ h m d, V h (ix2 m d) = kv m ⟨512 + (128 * h.val + d.val), by omega⟩)
include hK hV

/-- The second residual of a row. -/
abbrev outr (i : Fin 256) : Fin 1024 → EReal :=
  cross (hidr x0 x1 x2 x4 x5 x6 x7 x8 x9 i) (sc x10) (qw x11) kv (ow x12)

/-- The second residual in the first sub-tile. -/
theorem tile1 (i : Fin 256) (j : Fin 1024) :
    k0_pay12 (F := Ideal) (k0_pay5 (k0_pay3 x0) (k0_pay4 x0 x4 x5 x6) x1 x7 x2 x8 x9)
      (k0_pay6 (k0_pay3 x0) (k0_pay4 x0 x4 x5 x6) x1 x7 x2 x8 x9 x10 x11)
      (k0_pay8 (k0_pay7 (k0_pay3 x0) (k0_pay4 x0 x4 x5 x6) x1 x7 x2 x8 x9 x10 x11) (K 0) (constant S256x256 .f32 0x00000000#32) (V 0))
      (k0_pay9 (k0_pay6 (k0_pay3 x0) (k0_pay4 x0 x4 x5 x6) x1 x7 x2 x8 x9 x10 x11) (K 1) (V 1))
      (k0_pay10 (k0_pay6 (k0_pay3 x0) (k0_pay4 x0 x4 x5 x6) x1 x7 x2 x8 x9 x10 x11) (K 2))
      (k0_pay11 (k0_pay6 (k0_pay3 x0) (k0_pay4 x0 x4 x5 x6) x1 x7 x2 x8 x9 x10 x11) (K 2)) (V 2)
      (constant S256x128 .f32 0x00000000#32) (K 3) (V 3) x12 (ix2 i j)
      = outr x0 x1 x2 x4 x5 x6 x7 x8 x9 x10 x11 x12 kv i j := by
  rw [pay12_at x12 _ _ K V _ _ (pay8_at _ _ K V (pay7_at x0 x1 x2 x4 x5 x6 x7 x8 x9 x10 x11)) (pay9_at _ K V), pay5_at]
  exact congrArg (hidr x0 x1 x2 x4 x5 x6 x7 x8 x9 i j + ·) (congrArg (fun f => vec f (ow x12) j)
    (funext fun c => heads_eq _ K V _ (sc x10) (qw x11) kv i (pay6_at x0 x1 x2 x4 x5 x6 x7 x8 x9 x10 x11 i) hK hV c))

/-- The second residual in the second sub-tile. -/
theorem tile2 (i : Fin 256) (j : Fin 1024) :
    k0_pay59 (F := Ideal) (k0_pay53 (k0_pay51 x0) (k0_pay52 x0 x4 x5) x6 x1 x7 x2 x8 x9)
      (k0_pay55 (k0_pay54 (k0_pay51 x0) (k0_pay52 x0 x4 x5) x6 x1 x7 x2 x8 x9 x10) x11)
      (k0_pay56 (k0_pay54 (k0_pay51 x0) (k0_pay52 x0 x4 x5) x6 x1 x7 x2 x8 x9 x10) x11 (K 0) (V 0))
      (k0_pay57 (k0_pay54 (k0_pay51 x0) (k0_pay52 x0 x4 x5) x6 x1 x7 x2 x8 x9 x10) x11 (K 1) (V 1))
      (k0_pay58 (k0_pay54 (k0_pay51 x0) (k0_pay52 x0 x4 x5) x6 x1 x7 x2 x8 x9 x10) x11) (K 2)
      (constant S256x256 .f32 0x00000000#32) (V 2) (K 3) (V 3) x12 (ix2 i j)
      = outr x0 x1 x2 x4 x5 x6 x7 x8 x9 x10 x11 x12 kv i j := by
  rw [pay59_at x12 _ _ K V _ _ (pay56_at x11 K V _) (pay57_at x11 K V _) _ (pay58_at x11 _), pay53_at]
  exact congrArg (hidr x0 x1 x2 x4 x5 x6 x7 x8 x9 i j + ·) (congrArg (fun f => vec f (ow x12) j)
    (funext fun c => heads_eq _ K V _ (sc x10) (qw x11) kv i (pay55_at x0 x1 x2 x4 x5 x6 x7 x8 x9 x10 x11 i) hK hV c))

end Cert.PostIdeal.BlockValue

end
-- ==== Proof.PostBlock.lean ====
/- THE TWO FLOAT OUTPUT BLOCKS of one grid point of the merge and cross-attention kernel, at an index: the row functions of
   PostSpec.lean at the rows of the point's input blocks. -/
module

public import proofs.«01_k».proof.Proof.PostFrame
public import proofs.«01_k».proof.Proof.PostKernel

@[expose] public section

noncomputable section

namespace Cert.PostIdeal.BlockValue

open Cert.PostIdeal Cert.PostIdeal.Gen Cert.PostIdeal.Body Idealize.ShloMosaic Idealize.ShloMosaic.TcCoe Cert.Spec

set_option maxRecDepth 16384

theorem hz2 : (![0, 0] : Fin 2 → Nat) = fun _ => 0 := funext fun a => by fin_cases a <;> rfl

/-! ## Loads of a part of a block -/

variable (B : Vec Ideal S512x1024 .f32) (C : Vec Ideal S512x1024 .bf16) (D : Vec Ideal S256x1024 .bf16)

theorem ldB0 (i : Fin 256) (k : Fin 1024) :
    View.ld B (Rect.unit ![0, 0] S256x1024.size inb_S512x1024_S256x1024_0_0) (ix2 i k) = B (ix2 ⟨0 + i.val, by omega⟩ k) := by
  pointwise []
theorem ldB1 (i : Fin 256) (k : Fin 1024) :
    View.ld B (Rect.unit ![256, 0] S256x1024.size inb_S512x1024_S256x1024_256_0) (ix2 i k) = B (ix2 ⟨256 + i.val, by omega⟩ k) := by
  pointwise []
theorem ldC0 (i : Fin 256) (k : Fin 1024) :
    View.ld C (Rect.unit ![0, 0] S256x1024.size inb_S512x1024_S256x1024_0_0) (ix2 i k) = C (ix2 ⟨0 + i.val, by omega⟩ k) := by
  pointwise []
theorem ldC1 (i : Fin 256) (k : Fin 1024) :
    View.ld C (Rect.unit ![256, 0] S256x1024.size inb_S512x1024_S256x1024_256_0) (ix2 i k) = C (ix2 ⟨256 + i.val, by omega⟩ k) := by
  pointwise []

theorem ldD0 (m : Fin 256) (e : Fin 128) :
    View.ld D (Rect.unit ![0, 0] S256x128.size inb_S256x1024_S256x128_0_0) (ix2 m e) = D (ix2 m ⟨0 + e.val, by omega⟩) := by
  pointwise []
theorem ldD1 (m : Fin 256) (e : Fin 128) :
    View.ld D (Rect.unit ![0, 128] S256x128.size inb_S256x1024_S256x128_0_128) (ix2 m e) = D (ix2 m ⟨128 + e.val, by omega⟩) := by
  pointwise []
theorem ldD2 (m : Fin 256) (e : Fin 128) :
    View.ld D (Rect.unit ![0, 256] S256x128.size inb_S256x1024_S256x128_0_256) (ix2 m e) = D (ix2 m ⟨256 + e.val, by omega⟩) := by
  pointwise []
theorem ldD3 (m : Fin 256) (e : Fin 128) :
    View.ld D (Rect.unit ![0, 384] S256x128.size inb_S256x1024_S256x128_0_384) (ix2 m e) = D (ix2 m ⟨384 + e.val, by omega⟩) := by
  pointwise []
theorem ldD4 (m : Fin 256) (e : Fin 128) :
    View.ld D (Rect.unit ![0, 512] S256x128.size inb_S256x1024_S256x128_0_512) (ix2 m e) = D (ix2 m ⟨512 + e.val, by omega⟩) := by
  pointwise []
theorem ldD5 (m : Fin 256) (e : Fin 128) :
    View.ld D (Rect.unit ![0, 640] S256x128.size inb_S256x1024_S256x128_0_640) (ix2 m e) = D (ix2 m ⟨640 + e.val, by omega⟩) := by
  pointwise []
theorem ldD6 (m : Fin 256) (e : Fin 128) :
    View.ld D (Rect.unit ![0, 768] S256x128.size inb_S256x1024_S256x128_0_768) (ix2 m e) = D (ix2 m ⟨768 + e.val, by omega⟩) := by
  pointwise []
theorem ldD7 (m : Fin 256) (e : Fin 128) :
    View.ld D (Rect.unit ![0, 896] S256x128.size inb_S256x1024_S256x128_0_896) (ix2 m e) = D (ix2 m ⟨896 + e.val, by omega⟩) := by
  pointwise []

/-! ## A sub-tile, from what its vectors hold -/

section SubTile

variable (x0 : Vec Ideal S256x1024 .f32) (x1 x2 : Vec Ideal S256x1024 .bf16)
  (x4 : Vec Ideal S1x1024 .f32) (x5 : Vec Ideal S1024x2048 .bf16) (x6 : Vec Ideal S1x2048 .f32)
  (x7 x8 x9 : Vec Ideal S1024x1024 .bf16) (x10 : Vec Ideal S1x1024 .f32) (x11 : Vec Ideal S1024x512 .bf16)
  (x12 : Vec Ideal S512x1024 .bf16) (k0 v0 k1 v1 k2 v2 k3 v3 : Vec Ideal S256x128 .bf16)

/-- Four heads' columns, by what each holds. -/
theorem heads4 (f : Fin 4 → Fin 256 → Fin 128 → EReal)
    (hk0 : ∀ m e, k0 (ix2 m e) = f 0 m e) (hk1 : ∀ m e, k1 (ix2 m e) = f 1 m e)
    (hk2 : ∀ m e, k2 (ix2 m e) = f 2 m e) (hk3 : ∀ m e, k3 (ix2 m e) = f 3 m e)
    (h : Fin 4) (m : Fin 256) (e : Fin 128) :
    (![k0, k1, k2, k3] : Fin 4 → Vec Ideal S256x128 .bf16) h (ix2 m e) = f h m e := by
  match h with
  | ⟨0, _⟩ => exact hk0 m e
  | ⟨1, _⟩ => exact hk1 m e
  | ⟨2, _⟩ => exact hk2 m e
  | ⟨3, _⟩ => exact hk3 m e

/-- The second residual in the first sub-tile, from what its vectors hold. -/
theorem tile1_of
    {X S A : Fin 256 → Fin 1024 → EReal} {w n : Fin 1024 → EReal} {G : Fin 1024 → Fin 2048 → EReal} {b : Fin 2048 → EReal}
    {P Q O : Fin 1024 → Fin 1024 → EReal} {Wq : Fin 1024 → Fin 512 → EReal} {Wo : Fin 512 → Fin 1024 → EReal}
    (e0 : ∀ i k, x0 (ix2 i k) = X i k) (e1 : ∀ i k, x1 (ix2 i k) = S i k) (e2 : ∀ i k, x2 (ix2 i k) = A i k)
    (e4 : ∀ k, x4 (ix2 0 k) = w k) (e5 : ∀ k c, x5 (ix2 k c) = G k c) (e6 : ∀ c, x6 (ix2 0 c) = b c)
    (e7 : ∀ k c, x7 (ix2 k c) = P k c) (e8 : ∀ k c, x8 (ix2 k c) = Q k c) (e9 : ∀ k c, x9 (ix2 k c) = O k c)
    (e10 : ∀ k, x10 (ix2 0 k) = n k) (e11 : ∀ k c, x11 (ix2 k c) = Wq k c) (e12 : ∀ k c, x12 (ix2 k c) = Wo k c)
    (kv : Fin 256 → Fin 1024 → EReal)
    (hk0 : ∀ m e, k0 (ix2 m e) = kv m ⟨0 + e.val, by omega⟩) (hk1 : ∀ m e, k1 (ix2 m e) = kv m ⟨128 + e.val, by omega⟩)
    (hk2 : ∀ m e, k2 (ix2 m e) = kv m ⟨256 + e.val, by omega⟩) (hk3 : ∀ m e, k3 (ix2 m e) = kv m ⟨384 + e.val, by omega⟩)
    (hv0 : ∀ m e, v0 (ix2 m e) = kv m ⟨512 + e.val, by omega⟩) (hv1 : ∀ m e, v1 (ix2 m e) = kv m ⟨640 + e.val, by omega⟩)
    (hv2 : ∀ m e, v2 (ix2 m e) = kv m ⟨768 + e.val, by omega⟩) (hv3 : ∀ m e, v3 (ix2 m e) = kv m ⟨896 + e.val, by omega⟩)
    (i : Fin 256) (j : Fin 1024) :
    k0_pay12 (F := Ideal) (k0_pay5 (k0_pay3 x0) (k0_pay4 x0 x4 x5 x6) x1 x7 x2 x8 x9) (k0_pay6 (k0_pay3 x0) (k0_pay4 x0 x4 x5 x6) x1 x7 x2 x8 x9 x10 x11)
      (k0_pay8 (k0_pay7 (k0_pay3 x0) (k0_pay4 x0 x4 x5 x6) x1 x7 x2 x8 x9 x10 x11) k0 (constant S256x256 .f32 0x00000000#32) v0)
      (k0_pay9 (k0_pay6 (k0_pay3 x0) (k0_pay4 x0 x4 x5 x6) x1 x7 x2 x8 x9 x10 x11) k1 v1) (k0_pay10 (k0_pay6 (k0_pay3 x0) (k0_pay4 x0 x4 x5 x6) x1 x7 x2 x8 x9 x10 x11) k2) (k0_pay11 (k0_pay6 (k0_pay3 x0) (k0_pay4 x0 x4 x5 x6) x1 x7 x2 x8 x9 x10 x11) k2) v2
      (constant S256x128 .f32 0x00000000#32) k3 v3 x12 (ix2 i j)
      = cross (hid (X i) (S i) (A i) w G b P Q O) n Wq kv Wo j := by
  obtain rfl : X = row x0 := funext fun i => funext fun k => (e0 i k).symm
  obtain rfl : S = rowb x1 := funext fun i => funext fun k => (e1 i k).symm
  obtain rfl : A = rowb x2 := funext fun i => funext fun k => (e2 i k).symm
  obtain rfl : w = sc x4 := funext fun k => (e4 k).symm
  obtain rfl : G = gw x5 := funext fun k => funext fun c => (e5 k c).symm
  obtain rfl : b = gb x6 := funext fun k => (e6 k).symm
  obtain rfl : P = sq x7 := funext fun k => funext fun c => (e7 k c).symm
  obtain rfl : Q = sq x8 := funext fun k => funext fun c => (e8 k c).symm
  obtain rfl : O = sq x9 := funext fun k => funext fun c => (e9 k c).symm
  obtain rfl : n = sc x10 := funext fun k => (e10 k).symm
  obtain rfl : Wq = qw x11 := funext fun k => funext fun c => (e11 k c).symm
  obtain rfl : Wo = ow x12 := funext fun k => funext fun c => (e12 k c).symm
  exact tile1 x0 x1 x2 x4 x5 x6 x7 x8 x9 x10 x11 x12 ![k0, k1, k2, k3] ![v0, v1, v2, v3] kv
    (heads4 k0 k1 k2 k3 (fun h m e => kv m ⟨128 * h.val + e.val, by omega⟩)
      (fun m e => (hk0 m e).trans (congrArg (kv m) (Fin.ext (by show 0 + e.val = 128 * 0 + e.val; omega))))
      (fun m e => (hk1 m e).trans (congrArg (kv m) (Fin.ext (by show 128 + e.val = 128 * 1 + e.val; omega))))
      (fun m e => (hk2 m e).trans (congrArg (kv m) (Fin.ext (by show 256 + e.val = 128 * 2 + e.val; omega))))
      (fun m e => (hk3 m e).trans (congrArg (kv m) (Fin.ext (by show 384 + e.val = 128 * 3 + e.val; omega)))))
    (heads4 v0 v1 v2 v3 (fun h m e => kv m ⟨512 + (128 * h.val + e.val), by omega⟩)
      (fun m e => (hv0 m e).trans (congrArg (kv m) (Fin.ext (by show 512 + e.val = 512 + (128 * 0 + e.val); omega))))
      (fun m e => (hv1 m e).trans (congrArg (kv m) (Fin.ext (by show 640 + e.val = 512 + (128 * 1 + e.val); omega))))
      (fun m e => (hv2 m e).trans (congrArg (kv m) (Fin.ext (by show 768 + e.val = 512 + (128 * 2 + e.val); omega))))
      (fun m e => (hv3 m e).trans (congrArg (kv m) (Fin.ext (by show 896 + e.val = 512 + (128 * 3 + e.val); omega))))) i j

/-- The same in the second. -/
theorem tile2_of
    {X S A : Fin 256 → Fin 1024 → EReal} {w n : Fin 1024 → EReal} {G : Fin 1024 → Fin 2048 → EReal} {b : Fin 2048 → EReal}
    {P Q O : Fin 1024 → Fin 1024 → EReal} {Wq : Fin 1024 → Fin 512 → EReal} {Wo : Fin 512 → Fin 1024 → EReal}
    (e0 : ∀ i k, x0 (ix2 i k) = X i k) (e1 : ∀ i k, x1 (ix2 i k) = S i k) (e2 : ∀ i k, x2 (ix2 i k) = A i k)
    (e4 : ∀ k, x4 (ix2 0 k) = w k) (e5 : ∀ k c, x5 (ix2 k c) = G k c) (e6 : ∀ c, x6 (ix2 0 c) = b c)
    (e7 : ∀ k c, x7 (ix2 k c) = P k c) (e8 : ∀ k c, x8 (ix2 k c) = Q k c) (e9 : ∀ k c, x9 (ix2 k c) = O k c)
    (e10 : ∀ k, x10 (ix2 0 k) = n k) (e11 : ∀ k c, x11 (ix2 k c) = Wq k c) (e12 : ∀ k c, x12 (ix2 k c) = Wo k c)
    (kv : Fin 256 → Fin 1024 → EReal)
    (hk0 : ∀ m e, k0 (ix2 m e) = kv m ⟨0 + e.val, by omega⟩) (hk1 : ∀ m e, k1 (ix2 m e) = kv m ⟨128 + e.val, by omega⟩)
    (hk2 : ∀ m e, k2 (ix2 m e) = kv m ⟨256 + e.val, by omega⟩) (hk3 : ∀ m e, k3 (ix2 m e) = kv m ⟨384 + e.val, by omega⟩)
    (hv0 : ∀ m e, v0 (ix2 m e) = kv m ⟨512 + e.val, by omega⟩) (hv1 : ∀ m e, v1 (ix2 m e) = kv m ⟨640 + e.val, by omega⟩)
    (hv2 : ∀ m e, v2 (ix2 m e) = kv m ⟨768 + e.val, by omega⟩) (hv3 : ∀ m e, v3 (ix2 m e) = kv m ⟨896 + e.val, by omega⟩)
    (i : Fin 256) (j : Fin 1024) :
    k0_pay59 (F := Ideal) (k0_pay53 (k0_pay51 x0) (k0_pay52 x0 x4 x5) x6 x1 x7 x2 x8 x9)
      (k0_pay55 (k0_pay54 (k0_pay51 x0) (k0_pay52 x0 x4 x5) x6 x1 x7 x2 x8 x9 x10) x11) (k0_pay56 (k0_pay54 (k0_pay51 x0) (k0_pay52 x0 x4 x5) x6 x1 x7 x2 x8 x9 x10) x11 k0 v0) (k0_pay57 (k0_pay54 (k0_pay51 x0) (k0_pay52 x0 x4 x5) x6 x1 x7 x2 x8 x9 x10) x11 k1 v1) (k0_pay58 (k0_pay54 (k0_pay51 x0) (k0_pay52 x0 x4 x5) x6 x1 x7 x2 x8 x9 x10) x11) k2
      (constant S256x256 .f32 0x00000000#32) v2 k3 v3 x12 (ix2 i j)
      = cross (hid (X i) (S i) (A i) w G b P Q O) n Wq kv Wo j := by
  obtain rfl : X = row x0 := funext fun i => funext fun k => (e0 i k).symm
  obtain rfl : S = rowb x1 := funext fun i => funext fun k => (e1 i k).symm
  obtain rfl : A = rowb x2 := funext fun i => funext fun k => (e2 i k).symm
  obtain rfl : w = sc x4 := funext fun k => (e4 k).symm
  obtain rfl : G = gw x5 := funext fun k => funext fun c => (e5 k c).symm
  obtain rfl : b = gb x6 := funext fun k => (e6 k).symm
  obtain rfl : P = sq x7 := funext fun k => funext fun c => (e7 k c).symm
  obtain rfl : Q = sq x8 := funext fun k => funext fun c => (e8 k c).symm
  obtain rfl : O = sq x9 := funext fun k => funext fun c => (e9 k c).symm
  obtain rfl : n = sc x10 := funext fun k => (e10 k).symm
  obtain rfl : Wq = qw x11 := funext fun k => funext fun c => (e11 k c).symm
  obtain rfl : Wo = ow x12 := funext fun k => funext fun c => (e12 k c).symm
  exact tile2 x0 x1 x2 x4 x5 x6 x7 x8 x9 x10 x11 x12 ![k0, k1, k2, k3] ![v0, v1, v2, v3] kv
    (heads4 k0 k1 k2 k3 (fun h m e => kv m ⟨128 * h.val + e.val, by omega⟩)
      (fun m e => (hk0 m e).trans (congrArg (kv m) (Fin.ext (by show 0 + e.val = 128 * 0 + e.val; omega))))
      (fun m e => (hk1 m e).trans (congrArg (kv m) (Fin.ext (by show 128 + e.val = 128 * 1 + e.val; omega))))
      (fun m e => (hk2 m e).trans (congrArg (kv m) (Fin.ext (by show 256 + e.val = 128 * 2 + e.val; omega))))
      (fun m e => (hk3 m e).trans (congrArg (kv m) (Fin.ext (by show 384 + e.val = 128 * 3 + e.val; omega)))))
    (heads4 v0 v1 v2 v3 (fun h m e => kv m ⟨512 + (128 * h.val + e.val), by omega⟩)
      (fun m e => (hv0 m e).trans (congrArg (kv m) (Fin.ext (by show 512 + e.val = 512 + (128 * 0 + e.val); omega))))
      (fun m e => (hv1 m e).trans (congrArg (kv m) (Fin.ext (by show 640 + e.val = 512 + (128 * 1 + e.val); omega))))
      (fun m e => (hv2 m e).trans (congrArg (kv m) (Fin.ext (by show 768 + e.val = 512 + (128 * 2 + e.val); omega))))
      (fun m e => (hv3 m e).trans (congrArg (kv m) (Fin.ext (by show 896 + e.val = 512 + (128 * 3 + e.val); omega))))) i j

/-- The normed rows of the first sub-tile: where the second residual of row `i` is `O i`. -/
theorem norm1_of (x13 : Vec Ideal S1x1024 .f32) (h1 : FVec Ideal S256x1024 .f32) (q : FVec Ideal S256x512 .bf16)
    (o0 o1 : FVec Ideal S256x128 .bf16) (e10 : FVec Ideal S256x256 .f32) (e11 : FVec Ideal S256x256 .bf16)
    (c0 : FVec Ideal S256x128 .f32) (O : Fin 256 → Fin 1024 → EReal) {w : Fin 1024 → EReal} (e13 : ∀ k, x13 (ix2 0 k) = w k)
    (hO : ∀ i j, k0_pay12 (F := Ideal) h1 q o0 o1 e10 e11 v2 c0 k3 v3 x12 (ix2 i j) = O i j) (i : Fin 256) (j : Fin 1024) :
    k0_pay15 (F := Ideal) (k0_pay13 x13) (k0_pay14 h1 q o0 o1 e10 e11 v2 c0 k3 v3 x12) (ix2 i j) = rms (O i) w j := by
  obtain rfl : w = sc x13 := funext fun k => (e13 k).symm
  pointwise [k0_pay15, k0_pay14, k0_pay13]
  simp only [hO]
  rfl

/-- The same of the second. -/
theorem norm2_of (x13 : Vec Ideal S1x1024 .f32) (h1 : FVec Ideal S256x1024 .f32) (q : FVec Ideal S256x512 .bf16)
    (o0 o1 q2 : FVec Ideal S256x128 .bf16)
    (c0 : FVec Ideal S256x256 .f32) (O : Fin 256 → Fin 1024 → EReal) {w : Fin 1024 → EReal} (e13 : ∀ k, x13 (ix2 0 k) = w k)
    (hO : ∀ i j, k0_pay59 (F := Ideal) h1 q o0 o1 q2 k2 c0 v2 k3 v3 x12 (ix2 i j) = O i j) (i : Fin 256) (j : Fin 1024) :
    k0_pay62 (F := Ideal) (k0_pay59 h1 q o0 o1 q2 k2 c0 v2 k3 v3 x12) (k0_pay60 x13)
      (k0_pay61 h1 q o0 o1 q2 k2 c0 v2 k3 v3 x12) (ix2 i j) = rms (O i) w j := by
  obtain rfl : w = sc x13 := funext fun k => (e13 k).symm
  pointwise [k0_pay62, k0_pay61, k0_pay60]
  simp only [hO]
  rfl

/-! ### The stored slices of the normed rows -/

section Slices
variable (a : FVec Ideal S256x1024 .f32) (b : FVec Ideal S1x1024 .f32) (d : FVec Ideal S256x1024 .f32)
theorem slice00_at (i : Fin 256) (l : Fin 128) : k0_pay16 (F := Ideal) b a (ix2 i l) = k0_pay15 (F := Ideal) b a (ix2 i ⟨0 + l.val, by omega⟩) := by
  pointwise [k0_pay16]
theorem slice01_at (i : Fin 256) (l : Fin 128) : k0_pay17 (F := Ideal) b a (ix2 i l) = k0_pay15 (F := Ideal) b a (ix2 i ⟨128 + l.val, by omega⟩) := by
  pointwise [k0_pay17]
theorem slice02_at (i : Fin 256) (l : Fin 128) : k0_pay18 (F := Ideal) b a (ix2 i l) = k0_pay15 (F := Ideal) b a (ix2 i ⟨256 + l.val, by omega⟩) := by
  pointwise [k0_pay18]
theorem slice03_at (i : Fin 256) (l : Fin 128) : k0_pay19 (F := Ideal) b a (ix2 i l) = k0_pay15 (F := Ideal) b a (ix2 i ⟨384 + l.val, by omega⟩) := by
  pointwise [k0_pay19]
theorem slice04_at (i : Fin 256) (l : Fin 128) : k0_pay20 (F := Ideal) b a (ix2 i l) = k0_pay15 (F := Ideal) b a (ix2 i ⟨512 + l.val, by omega⟩) := by
  pointwise [k0_pay20]
theorem slice05_at (i : Fin 256) (l : Fin 128) : k0_pay21 (F := Ideal) b a (ix2 i l) = k0_pay15 (F := Ideal) b a (ix2 i ⟨640 + l.val, by omega⟩) := by
  pointwise [k0_pay21]
theorem slice06_at (i : Fin 256) (l : Fin 128) : k0_pay22 (F := Ideal) b a (ix2 i l) = k0_pay15 (F := Ideal) b a (ix2 i ⟨768 + l.val, by omega⟩) := by
  pointwise [k0_pay22]
theorem slice07_at (i : Fin 256) (l : Fin 128) : k0_pay23 (F := Ideal) b a (ix2 i l) = k0_pay15 (F := Ideal) b a (ix2 i ⟨896 + l.val, by omega⟩) := by
  pointwise [k0_pay23]
theorem slice10_at (i : Fin 256) (l : Fin 128) : k0_pay63 (F := Ideal) a b d (ix2 i l) = k0_pay62 (F := Ideal) a b d (ix2 i ⟨0 + l.val, by omega⟩) := by
  pointwise [k0_pay63]
theorem slice11_at (i : Fin 256) (l : Fin 128) : k0_pay64 (F := Ideal) a b d (ix2 i l) = k0_pay62 (F := Ideal) a b d (ix2 i ⟨128 + l.val, by omega⟩) := by
  pointwise [k0_pay64]
theorem slice12_at (i : Fin 256) (l : Fin 128) : k0_pay65 (F := Ideal) a b d (ix2 i l) = k0_pay62 (F := Ideal) a b d (ix2 i ⟨256 + l.val, by omega⟩) := by
  pointwise [k0_pay65]
theorem slice13_at (i : Fin 256) (l : Fin 128) : k0_pay66 (F := Ideal) a b d (ix2 i l) = k0_pay62 (F := Ideal) a b d (ix2 i ⟨384 + l.val, by omega⟩) := by
  pointwise [k0_pay66]
theorem slice14_at (i : Fin 256) (l : Fin 128) : k0_pay67 (F := Ideal) a b d (ix2 i l) = k0_pay62 (F := Ideal) a b d (ix2 i ⟨512 + l.val, by omega⟩) := by
  pointwise [k0_pay67]
theorem slice15_at (i : Fin 256) (l : Fin 128) : k0_pay68 (F := Ideal) a b d (ix2 i l) = k0_pay62 (F := Ideal) a b d (ix2 i ⟨640 + l.val, by omega⟩) := by
  pointwise [k0_pay68]
theorem slice16_at (i : Fin 256) (l : Fin 128) : k0_pay69 (F := Ideal) a b d (ix2 i l) = k0_pay62 (F := Ideal) a b d (ix2 i ⟨768 + l.val, by omega⟩) := by
  pointwise [k0_pay69]
theorem slice17_at (i : Fin 256) (l : Fin 128) : k0_pay70 (F := Ideal) a b d (ix2 i l) = k0_pay62 (F := Ideal) a b d (ix2 i ⟨896 + l.val, by omega⟩) := by
  pointwise [k0_pay70]
end Slices

end SubTile

/-! ## The run's values, from what its buffers hold -/

/-- Row `i` of a block of 512 rows. -/
abbrev brow (B : Vec Ideal S512x1024 .f32) (i : Fin 512) : Fin 1024 → EReal := fun k => B (ix2 i k)
abbrev browb (B : Vec Ideal S512x1024 .bf16) (i : Fin 512) : Fin 1024 → EReal := fun k => B (ix2 i k)
/-- The memory's rows. -/
abbrev kvr (D : Vec Ideal S256x1024 .bf16) : Fin 256 → Fin 1024 → EReal := fun m c => D (ix2 m c)

variable (c : Dev nD)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S256x1024 .bf16) (harg4 : arg4.IsWhole)
  (arg5 : Memref sig .tc .vmem S1x1024 .f32) (harg5 : arg5.IsWhole)
  (arg6 : Memref sig .tc .vmem S1024x2048 .bf16) (harg6 : arg6.IsWhole)
  (arg7 : Memref sig .tc .vmem S1x2048 .f32) (harg7 : arg7.IsWhole)
  (arg8 : Memref sig .tc .vmem S1024x1024 .bf16) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1024x512 .bf16) (harg12 : arg12.IsWhole)
  (arg13 : Memref sig .tc .vmem S512x1024 .bf16) (harg13 : arg13.IsWhole)
  (arg14 : Memref sig .tc .vmem S1x1024 .f32) (harg14 : arg14.IsWhole)
  (x0 : Vec Ideal S512x1024 .f32)
  (x1 : Vec Ideal S512x1024 .bf16)
  (x2 : Vec Ideal S512x1024 .bf16)
  (x3 : Vec Ideal S256x1024 .bf16)
  (x4 : Vec Ideal S1x1024 .f32)
  (x5 : Vec Ideal S1024x2048 .bf16)
  (x6 : Vec Ideal S1x2048 .f32)
  (x7 : Vec Ideal S1024x1024 .bf16)
  (x8 : Vec Ideal S1024x1024 .bf16)
  (x9 : Vec Ideal S1024x1024 .bf16)
  (x10 : Vec Ideal S1x1024 .f32)
  (x11 : Vec Ideal S1024x512 .bf16)
  (x12 : Vec Ideal S512x1024 .bf16)
  (x13 : Vec Ideal S1x1024 .f32)

/-- The second residual of row `i` of the blocks. -/
abbrev outb (i : Fin 512) : Fin 1024 → EReal :=
  cross (hid (brow x0 i) (browb x1 i) (browb x2 i) (sc x4) (gw x5) (gb x6) (sq x7) (sq x8) (sq x9)) (sc x10) (qw x11) (kvr x3) (ow x12)

/-- The stored second residual of the first 256 rows. -/
theorem first_at (i : Fin 256) (j : Fin 1024) :
    k0_pay12 (F := Ideal)
      (run.sl.r_4 c arg1 harg1 arg2 harg2 arg3 harg3 arg5 harg5 arg6 harg6 arg7 harg7 arg8 harg8 arg9
        harg9 arg10 harg10 x0 x1 x2 x4 x5 x6 x7 x8 x9)
      (run.sl.r_5 c arg1 harg1 arg2 harg2 arg3 harg3 arg5 harg5 arg6 harg6 arg7 harg7 arg8 harg8 arg9
        harg9 arg10 harg10 arg11 harg11 arg12 harg12 x0 x1 x2 x4 x5 x6 x7 x8 x9 x10 x11)
      (run.sl.r_8 c arg1 harg1 arg2 harg2 arg3 harg3 arg4 harg4 arg5 harg5 arg6 harg6 arg7 harg7 arg8
        harg8 arg9 harg9 arg10 harg10 arg11 harg11 arg12 harg12 x0 x1 x2 x3 x4 x5 x6 x7 x8 x9 x10 x11)
      (run.sl.r_9 c arg1 harg1 arg2 harg2 arg3 harg3 arg4 harg4 arg5 harg5 arg6 harg6 arg7 harg7 arg8
        harg8 arg9 harg9 arg10 harg10 arg11 harg11 arg12 harg12 x0 x1 x2 x3 x4 x5 x6 x7 x8 x9 x10 x11)
      (run.sl.r_10 c arg1 harg1 arg2 harg2 arg3 harg3 arg4 harg4 arg5 harg5 arg6 harg6 arg7 harg7 arg8
        harg8 arg9 harg9 arg10 harg10 arg11 harg11 arg12 harg12 x0 x1 x2 x3 x4 x5 x6 x7 x8 x9 x10 x11)
      (run.sl.r_11 c arg1 harg1 arg2 harg2 arg3 harg3 arg4 harg4 arg5 harg5 arg6 harg6 arg7 harg7 arg8
        harg8 arg9 harg9 arg10 harg10 arg11 harg11 arg12 harg12 x0 x1 x2 x3 x4 x5 x6 x7 x8 x9 x10 x11)
      (run.sl.r_12 c arg4 harg4 x3) run.sl.cst_52
      (View.readAt (Elt Ideal) arg4.view
        ((Rect.unit ![0, 384] S256x128.size
            inb_S256x1024_S256x128_0_384 : Rect S256x1024 )).toLoadRect
        (harg4.unread x3))
      (View.readAt (Elt Ideal) arg4.view
        ((Rect.unit ![0, 896] S256x128.size
            inb_S256x1024_S256x128_0_896 : Rect S256x1024 )).toLoadRect
        (harg4.unread x3))
      (View.readAt (Elt Ideal) arg13.view
        (Rect.unit ![0, 0] S512x1024.size
            inb_S512x1024_S512x1024_0_0).toLoadRect
        (harg13.unread x12)) (ix2 i j)
      = outb x0 x1 x2 x3 x4 x5 x6 x7 x8 x9 x10 x11 x12 ⟨0 + i.val, by omega⟩ j := by
  simp only [run.sl.r_12, run.sl.r_11, run.sl.r_10, run.sl.r_9, run.sl.r_8, run.sl.r_7, run.sl.r_6, run.sl.r_5, run.sl.r_4, run.sl.r_3, run.sl.r_2, run.sl.r_1, run.sl.r, run.sl.cst_37, run.sl.cst_52]
  refine (tile1_of _ _ _ _ _ _ _ _ _ _ _ _ _ _ _ _ _ _ _ _
    (X := fun i => brow x0 ⟨0 + i.val, by omega⟩) (S := fun i => browb x1 ⟨0 + i.val, by omega⟩)
    (A := fun i => browb x2 ⟨0 + i.val, by omega⟩) (w := sc x4) (n := sc x10) (G := gw x5) (b := gb x6)
    (P := sq x7) (Q := sq x8) (O := sq x9) (Wq := qw x11) (Wo := ow x12)
    (fun i k => by rw [View.readAt_eq_ld, Memref.IsWhole.read_unread]; exact ldB0 x0 i k)
    (fun i k => by rw [View.readAt_eq_ld, Memref.IsWhole.read_unread]; exact ldC0 x1 i k)
    (fun i k => by rw [View.readAt_eq_ld, Memref.IsWhole.read_unread]; exact ldC0 x2 i k)
    (fun k => by rw [View.readAt_eq_ld, Memref.IsWhole.read_unread, View.ld_unit_zero hz2])
    (fun k c => by rw [View.readAt_eq_ld, Memref.IsWhole.read_unread, View.ld_unit_zero hz2])
    (fun k => by rw [View.readAt_eq_ld, Memref.IsWhole.read_unread, View.ld_unit_zero hz2])
    (fun k c => by rw [View.readAt_eq_ld, Memref.IsWhole.read_unread, View.ld_unit_zero hz2])
    (fun k c => by rw [View.readAt_eq_ld, Memref.IsWhole.read_unread, View.ld_unit_zero hz2])
    (fun k c => by rw [View.readAt_eq_ld, Memref.IsWhole.read_unread, View.ld_unit_zero hz2])
    (fun k => by rw [View.readAt_eq_ld, Memref.IsWhole.read_unread, View.ld_unit_zero hz2])
    (fun k c => by rw [View.readAt_eq_ld, Memref.IsWhole.read_unread, View.ld_unit_zero hz2])
    (fun k c => by rw [View.readAt_eq_ld, Memref.IsWhole.read_unread, View.ld_unit_zero hz2])
    (kvr x3)
    (fun m e => by rw [View.readAt_eq_ld, Memref.IsWhole.read_unread]; exact ldD0 x3 m e)
    (fun m e => by rw [View.readAt_eq_ld, Memref.IsWhole.read_unread]; exact ldD1 x3 m e)
    (fun m e => by rw [View.readAt_eq_ld, Memref.IsWhole.read_unread]; exact ldD2 x3 m e)
    (fun m e => by rw [View.readAt_eq_ld, Memref.IsWhole.read_unread]; exact ldD3 x3 m e)
    (fun m e => by rw [View.readAt_eq_ld, Memref.IsWhole.read_unread]; exact ldD4 x3 m e)
    (fun m e => by rw [View.readAt_eq_ld, Memref.IsWhole.read_unread]; exact ldD5 x3 m e)
    (fun m e => by rw [View.readAt_eq_ld, Memref.IsWhole.read_unread]; exact ldD6 x3 m e)
    (fun m e => by rw [View.readAt_eq_ld, Memref.IsWhole.read_unread]; exact ldD7 x3 m e) i j)

/-- The stored second residual of the last 256 rows. -/
theorem last_at (i : Fin 256) (j : Fin 1024) :
    run.sl.r_40 (F := Ideal) c arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 (ix2 i j)
      = outb x0 x1 x2 x3 x4 x5 x6 x7 x8 x9 x10 x11 x12 ⟨256 + i.val, by omega⟩ j := by
  simp only [run.sl.r_40, run.sl.r_39, run.sl.r_38, run.sl.r_37, run.sl.r_36, run.sl.r_35, run.sl.r_34, run.sl.r_33, run.sl.r_32, run.sl.r_31, run.sl.r_30, run.sl.cst_37]
  refine (tile2_of _ _ _ _ _ _ _ _ _ _ _ _ _ _ _ _ _ _ _ _
    (X := fun i => brow x0 ⟨256 + i.val, by omega⟩) (S := fun i => browb x1 ⟨256 + i.val, by omega⟩)
    (A := fun i => browb x2 ⟨256 + i.val, by omega⟩) (w := sc x4) (n := sc x10) (G := gw x5) (b := gb x6)
    (P := sq x7) (Q := sq x8) (O := sq x9) (Wq := qw x11) (Wo := ow x12)
    (fun i k => by rw [View.readAt_eq_ld, Memref.IsWhole.read_unread]; exact ldB1 x0 i k)
    (fun i k => by rw [View.readAt_eq_ld, Memref.IsWhole.read_unread]; exact ldC1 x1 i k)
    (fun i k => by rw [View.readAt_eq_ld, Memref.IsWhole.read_unread]; exact ldC1 x2 i k)
    (fun k => by rw [View.readAt_eq_ld, Memref.IsWhole.read_unread, View.ld_unit_zero hz2])
    (fun k c => by rw [View.readAt_eq_ld, Memref.IsWhole.read_unread, View.ld_unit_zero hz2])
    (fun k => by rw [View.readAt_eq_ld, Memref.IsWhole.read_unread, View.ld_unit_zero hz2])
    (fun k c => by rw [View.readAt_eq_ld, Memref.IsWhole.read_unread, View.ld_unit_zero hz2])
    (fun k c => by rw [View.readAt_eq_ld, Memref.IsWhole.read_unread, View.ld_unit_zero hz2])
    (fun k c => by rw [View.readAt_eq_ld, Memref.IsWhole.read_unread, View.ld_unit_zero hz2])
    (fun k => by rw [View.readAt_eq_ld, Memref.IsWhole.read_unread, View.ld_unit_zero hz2])
    (fun k c => by rw [View.readAt_eq_ld, Memref.IsWhole.read_unread, View.ld_unit_zero hz2])
    (fun k c => by rw [View.readAt_eq_ld, Memref.IsWhole.read_unread, View.ld_unit_zero hz2])
    (kvr x3)
    (fun m e => by rw [View.readAt_eq_ld, Memref.IsWhole.read_unread]; exact ldD0 x3 m e)
    (fun m e => by rw [View.readAt_eq_ld, Memref.IsWhole.read_unread]; exact ldD1 x3 m e)
    (fun m e => by rw [View.readAt_eq_ld, Memref.IsWhole.read_unread]; exact ldD2 x3 m e)
    (fun m e => by rw [View.readAt_eq_ld, Memref.IsWhole.read_unread]; exact ldD3 x3 m e)
    (fun m e => by rw [View.readAt_eq_ld, Memref.IsWhole.read_unread]; exact ldD4 x3 m e)
    (fun m e => by rw [View.readAt_eq_ld, Memref.IsWhole.read_unread]; exact ldD5 x3 m e)
    (fun m e => by rw [View.readAt_eq_ld, Memref.IsWhole.read_unread]; exact ldD6 x3 m e)
    (fun m e => by rw [View.readAt_eq_ld, Memref.IsWhole.read_unread]; exact ldD7 x3 m e) i j)

/-- The first 256 rows normed. -/
theorem firstNorm_at (i : Fin 256) (j : Fin 1024) :
    k0_pay15 (F := Ideal) (run.sl.r_13 c arg14 harg14 x13)
      (run.sl.r_14 c arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) (ix2 i j)
      = rms (outb x0 x1 x2 x3 x4 x5 x6 x7 x8 x9 x10 x11 x12 ⟨0 + i.val, by omega⟩) (sc x13) j := by
  simp only [run.sl.r_14, run.sl.r_13]
  refine norm1_of _ _ _ _ _ _ _ _ _ _ _ _ (fun i => outb x0 x1 x2 x3 x4 x5 x6 x7 x8 x9 x10 x11 x12 ⟨0 + i.val, by omega⟩) (w := sc x13)
    (fun k => by rw [View.readAt_eq_ld, Memref.IsWhole.read_unread, View.ld_unit_zero hz2]) (fun i j => ?_) i j
  exact first_at c arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 i j

/-- The last 256 rows normed. -/
theorem lastNorm_at (i : Fin 256) (j : Fin 1024) :
    k0_pay62 (F := Ideal) (run.sl.r_40 c arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)
      (run.sl.r_41 c arg14 harg14 x13)
      (run.sl.r_42 c arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) (ix2 i j)
      = rms (outb x0 x1 x2 x3 x4 x5 x6 x7 x8 x9 x10 x11 x12 ⟨256 + i.val, by omega⟩) (sc x13) j := by
  simp only [run.sl.r_42, run.sl.r_41]
  rw [run.sl.r_40]
  refine norm2_of _ _ _ _ _ _ _ _ _ _ _ _ (fun i => outb x0 x1 x2 x3 x4 x5 x6 x7 x8 x9 x10 x11 x12 ⟨256 + i.val, by omega⟩) (w := sc x13)
    (fun k => by rw [View.readAt_eq_ld, Memref.IsWhole.read_unread, View.ld_unit_zero hz2]) (fun i j => ?_) i j
  have h := last_at c arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 i j
  rw [run.sl.r_40] at h
  exact h

/-! ## The two output blocks -/

variable (m : (ℓ : Loc nD τ sig) → Buf (Elt Ideal) ℓ) (t : Fin cfg0.N)

/-- The second residual of row `i` of the point's blocks. -/
abbrev blockOut (i : Fin 512) : Fin 1024 → EReal :=
  outb (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i

/-- The merged rows' block. -/
theorem out16_at (i : Fin 512) (j : Fin 1024) : out16 m c t (ix2 i j) = blockOut c m t i j := by
  suffices h : ∀ G : Fin 512 → Fin 1024 → EReal, G = blockOut c m t → out16 m c t (ix2 i j) = G i j from h _ rfl
  intro G hG
  refine View.canon_apply_of_pieces (Val := Elt Ideal) (e := .f32) (fun y => G (y 0) (y 1)) _ ?_ _ (cover16 m c t (ix2 i j))
  unfold ran run
  dsimp only
  intro pc hpc
  rcases List.mem_cons.mp hpc with rfl | hpc
  · intro (y : S256x1024.Idx)
    idx_vars y
    refine (last_at c _ _ _ _ _ _ _ _ _ _ _ _ _ _ _ _ _ _ _ _ _ _ _ _ _ _ _ _ _ _ _ _ _ _ _ _ _ _ _ y0 y1).trans ?_
    rw [hG]
    exact congrArg₂ (blockOut c m t) (Fin.ext (by show 256 + y0.val = 256 + 1 * y0.val; omega)) (Fin.ext (by show y1.val = 0 + 1 * y1.val; omega))
  rcases List.mem_cons.mp hpc with rfl | hpc
  · intro (y : S256x1024.Idx)
    idx_vars y
    refine (first_at c _ _ _ _ _ _ _ _ _ _ _ _ _ _ _ _ _ _ _ _ _ _ _ _ _ _ _ _ _ _ _ _ _ _ _ _ _ _ _ y0 y1).trans ?_
    rw [hG]
    exact congrArg₂ (blockOut c m t) (Fin.ext (by show 0 + y0.val = 0 + 1 * y0.val; omega)) (Fin.ext (by show y1.val = 0 + 1 * y1.val; omega))
  · simp at hpc

/-- The normed rows' block: row `8 i + q` holds the columns from `128 q` of row `i`. -/
theorem out17_at (r : Fin 4096) (l : Fin 128) : out17 m c t (ix2 r l)
    = rms (blockOut c m t ⟨r.val / 8, by omega⟩) (sc (iblk m c 13 t)) ⟨128 * (r.val % 8) + l.val, by omega⟩ := by
  suffices h : ∀ G : Fin 512 → Fin 1024 → EReal, (∀ i j, G i j = rms (blockOut c m t i) (sc (iblk m c 13 t)) j) →
      out17 m c t (ix2 r l) = G ⟨r.val / 8, by omega⟩ ⟨128 * (r.val % 8) + l.val, by omega⟩ from
    (h (fun i j => rms (blockOut c m t i) (sc (iblk m c 13 t)) j) fun _ _ => rfl)
  intro G hG
  refine View.canon_apply_of_pieces (Val := Elt Ideal) (e := .f32)
    (fun y => G ⟨(y 0).val / 8, by have h : (y 0).val < 4096 := (y 0).isLt; omega⟩
      ⟨128 * ((y 0).val % 8) + (y 1).val, by have h : (y 1).val < 128 := (y 1).isLt; omega⟩) _ ?_ _ (cover17 m c t (ix2 r l))
  unfold ran run
  dsimp only
  intro pc hpc
  rcases List.mem_cons.mp hpc with rfl | hpc
  · intro (y : S256x128.Idx)
    idx_vars y
    refine ((slice17_at _ _ _ y0 y1).trans (lastNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 256 + y0.val = (2055 + 8 * y0.val) / 8; omega))
      (Fin.ext (by show 896 + y1.val = 128 * ((2055 + 8 * y0.val) % 8) + (0 + 1 * y1.val); omega))
  rcases List.mem_cons.mp hpc with rfl | hpc
  · intro (y : S256x128.Idx)
    idx_vars y
    refine ((slice16_at _ _ _ y0 y1).trans (lastNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 256 + y0.val = (2054 + 8 * y0.val) / 8; omega))
      (Fin.ext (by show 768 + y1.val = 128 * ((2054 + 8 * y0.val) % 8) + (0 + 1 * y1.val); omega))
  rcases List.mem_cons.mp hpc with rfl | hpc
  · intro (y : S256x128.Idx)
    idx_vars y
    refine ((slice15_at _ _ _ y0 y1).trans (lastNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 256 + y0.val = (2053 + 8 * y0.val) / 8; omega))
      (Fin.ext (by show 640 + y1.val = 128 * ((2053 + 8 * y0.val) % 8) + (0 + 1 * y1.val); omega))
  rcases List.mem_cons.mp hpc with rfl | hpc
  · intro (y : S256x128.Idx)
    idx_vars y
    refine ((slice14_at _ _ _ y0 y1).trans (lastNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 256 + y0.val = (2052 + 8 * y0.val) / 8; omega))
      (Fin.ext (by show 512 + y1.val = 128 * ((2052 + 8 * y0.val) % 8) + (0 + 1 * y1.val); omega))
  rcases List.mem_cons.mp hpc with rfl | hpc
  · intro (y : S256x128.Idx)
    idx_vars y
    refine ((slice13_at _ _ _ y0 y1).trans (lastNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 256 + y0.val = (2051 + 8 * y0.val) / 8; omega))
      (Fin.ext (by show 384 + y1.val = 128 * ((2051 + 8 * y0.val) % 8) + (0 + 1 * y1.val); omega))
  rcases List.mem_cons.mp hpc with rfl | hpc
  · intro (y : S256x128.Idx)
    idx_vars y
    refine ((slice12_at _ _ _ y0 y1).trans (lastNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 256 + y0.val = (2050 + 8 * y0.val) / 8; omega))
      (Fin.ext (by show 256 + y1.val = 128 * ((2050 + 8 * y0.val) % 8) + (0 + 1 * y1.val); omega))
  rcases List.mem_cons.mp hpc with rfl | hpc
  · intro (y : S256x128.Idx)
    idx_vars y
    refine ((slice11_at _ _ _ y0 y1).trans (lastNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 256 + y0.val = (2049 + 8 * y0.val) / 8; omega))
      (Fin.ext (by show 128 + y1.val = 128 * ((2049 + 8 * y0.val) % 8) + (0 + 1 * y1.val); omega))
  rcases List.mem_cons.mp hpc with rfl | hpc
  · intro (y : S256x128.Idx)
    idx_vars y
    refine ((slice10_at _ _ _ y0 y1).trans (lastNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 256 + y0.val = (2048 + 8 * y0.val) / 8; omega))
      (Fin.ext (by show 0 + y1.val = 128 * ((2048 + 8 * y0.val) % 8) + (0 + 1 * y1.val); omega))
  rcases List.mem_cons.mp hpc with rfl | hpc
  · intro (y : S256x128.Idx)
    idx_vars y
    refine ((slice07_at _ _ y0 y1).trans (firstNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 0 + y0.val = (7 + 8 * y0.val) / 8; omega))
      (Fin.ext (by show 896 + y1.val = 128 * ((7 + 8 * y0.val) % 8) + (0 + 1 * y1.val); omega))
  rcases List.mem_cons.mp hpc with rfl | hpc
  · intro (y : S256x128.Idx)
    idx_vars y
    refine ((slice06_at _ _ y0 y1).trans (firstNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 0 + y0.val = (6 + 8 * y0.val) / 8; omega))
      (Fin.ext (by show 768 + y1.val = 128 * ((6 + 8 * y0.val) % 8) + (0 + 1 * y1.val); omega))
  rcases List.mem_cons.mp hpc with rfl | hpc
  · intro (y : S256x128.Idx)
    idx_vars y
    refine ((slice05_at _ _ y0 y1).trans (firstNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 0 + y0.val = (5 + 8 * y0.val) / 8; omega))
      (Fin.ext (by show 640 + y1.val = 128 * ((5 + 8 * y0.val) % 8) + (0 + 1 * y1.val); omega))
  rcases List.mem_cons.mp hpc with rfl | hpc
  · intro (y : S256x128.Idx)
    idx_vars y
    refine ((slice04_at _ _ y0 y1).trans (firstNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 0 + y0.val = (4 + 8 * y0.val) / 8; omega))
      (Fin.ext (by show 512 + y1.val = 128 * ((4 + 8 * y0.val) % 8) + (0 + 1 * y1.val); omega))
  rcases List.mem_cons.mp hpc with rfl | hpc
  · intro (y : S256x128.Idx)
    idx_vars y
    refine ((slice03_at _ _ y0 y1).trans (firstNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 0 + y0.val = (3 + 8 * y0.val) / 8; omega))
      (Fin.ext (by show 384 + y1.val = 128 * ((3 + 8 * y0.val) % 8) + (0 + 1 * y1.val); omega))
  rcases List.mem_cons.mp hpc with rfl | hpc
  · intro (y : S256x128.Idx)
    idx_vars y
    refine ((slice02_at _ _ y0 y1).trans (firstNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 0 + y0.val = (2 + 8 * y0.val) / 8; omega))
      (Fin.ext (by show 256 + y1.val = 128 * ((2 + 8 * y0.val) % 8) + (0 + 1 * y1.val); omega))
  rcases List.mem_cons.mp hpc with rfl | hpc
  · intro (y : S256x128.Idx)
    idx_vars y
    refine ((slice01_at _ _ y0 y1).trans (firstNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 0 + y0.val = (1 + 8 * y0.val) / 8; omega))
      (Fin.ext (by show 128 + y1.val = 128 * ((1 + 8 * y0.val) % 8) + (0 + 1 * y1.val); omega))
  rcases List.mem_cons.mp hpc with rfl | hpc
  · intro (y : S256x128.Idx)
    idx_vars y
    refine ((slice00_at _ _ y0 y1).trans (firstNorm_at c _ _ _ _ _ _ _ _ _ _ _ _ _ _ _ _ _ _ _ _ _ _ _ _ _ _ _ _ _ _ _ _ _ _ _ _ _ _ _ _ _ _ y0 _)).trans ?_
    refine (hG _ _).symm.trans ?_
    exact congrArg₂ G (Fin.ext (by show 0 + y0.val = (0 + 8 * y0.val) / 8; omega))
      (Fin.ext (by show 0 + y1.val = 128 * ((0 + 8 * y0.val) % 8) + (0 + 1 * y1.val); omega))
  · simp at hpc

end Cert.PostIdeal.BlockValue

end
-- ==== Proof.PostArrays.lean ====
/- THE TWO RESULT ARRAYS of the merge and cross-attention kernel as functions of the arguments: what each grid point
   writes back is its block of one array, and the blocks cover the arrays. -/
module

public import proofs.«01_k».proof.Proof.PostBlock
public import Idealize.ShloMosaic.Lib.StableHlo.ReadAt

@[expose] public section

noncomputable section

namespace Cert.PostIdeal.Arrays

open Cert.PostIdeal Cert.PostIdeal.Gen Cert.PostIdeal.Body Cert.PostIdeal.BlockValue Cert.Spec
open Idealize.ShloMosaic Idealize.ShloMosaic.TcCoe

set_option maxRecDepth 16384

variable (m : (ℓ : Loc nD τ sig) → Buf (Elt Ideal) ℓ) (c : Dev nD)

/-! ## What the kernel's input arrays hold, by the arguments -/

theorem V0_at (R : Fin 32768) (k : Fin 1024) : (Gen.V m c main_v0 : Vec Ideal S32768x1024 .f32) (ix2 R k)
    = (m ((c : Thread nD τ).loc main_arg0) : Vec Ideal S8x4096x1024 .f32) (ix3 ⟨R.val / 4096, by omega⟩ ⟨R.val % 4096, by omega⟩ k) := by
  unfold Gen.V
  after_reads_at
theorem V14_at (k : Fin 1024) : (Gen.V m c main_v14 : Vec Ideal S1x1024 .f32) (ix2 0 k)
    = (m ((c : Thread nD τ).loc main_arg4) : Vec Ideal S1x1024 .f32) (ix2 0 k) := by
  unfold Gen.V
  after_reads_at
theorem V16_at (k : Fin 1024) (j : Fin 2048) : (Gen.V m c main_v16 : Vec Ideal S1024x2048 .bf16) (ix2 k j)
    = (m ((c : Thread nD τ).loc main_arg5) : Vec Ideal S1x1024x2048 .f32) (ix3 0 k j) := by
  unfold Gen.V
  after_reads_at
theorem V18_at (k : Fin 2048) : (Gen.V m c main_v18 : Vec Ideal S1x2048 .f32) (ix2 0 k)
    = (m ((c : Thread nD τ).loc main_arg6) : Vec Ideal S1x2048 .f32) (ix2 0 k) := by
  unfold Gen.V
  after_reads_at
theorem V20_at (k : Fin 1024) (j : Fin 1024) : (Gen.V m c main_v20 : Vec Ideal S1024x1024 .bf16) (ix2 k j)
    = (m ((c : Thread nD τ).loc main_arg7) : Vec Ideal S1x1024x1024 .f32) (ix3 0 k j) := by
  unfold Gen.V
  after_reads_at
theorem V22_at (k : Fin 1024) (j : Fin 1024) : (Gen.V m c main_v22 : Vec Ideal S1024x1024 .bf16) (ix2 k j)
    = (m ((c : Thread nD τ).loc main_arg8) : Vec Ideal S1x1024x1024 .f32) (ix3 0 k j) := by
  unfold Gen.V
  after_reads_at
theorem V24_at (k : Fin 1024) (j : Fin 1024) : (Gen.V m c main_v24 : Vec Ideal S1024x1024 .bf16) (ix2 k j)
    = (m ((c : Thread nD τ).loc main_arg9) : Vec Ideal S1x1024x1024 .f32) (ix3 0 k j) := by
  unfold Gen.V
  after_reads_at
theorem V26_at (k : Fin 1024) : (Gen.V m c main_v26 : Vec Ideal S1x1024 .f32) (ix2 0 k)
    = (m ((c : Thread nD τ).loc main_arg10) : Vec Ideal S1x1024 .f32) (ix2 0 k) := by
  unfold Gen.V
  after_reads_at
theorem V28_at (k : Fin 1024) (j : Fin 512) : (Gen.V m c main_v28 : Vec Ideal S1024x512 .bf16) (ix2 k j)
    = (m ((c : Thread nD τ).loc main_arg11) : Vec Ideal S1x1024x512 .f32) (ix3 0 k j) := by
  unfold Gen.V
  after_reads_at
theorem V30_at (k : Fin 512) (j : Fin 1024) : (Gen.V m c main_v30 : Vec Ideal S512x1024 .bf16) (ix2 k j)
    = (m ((c : Thread nD τ).loc main_arg12) : Vec Ideal S1x512x1024 .f32) (ix3 0 k j) := by
  unfold Gen.V
  after_reads_at
theorem V32_at (k : Fin 1024) : (Gen.V m c main_v32 : Vec Ideal S1x1024 .f32) (ix2 0 k)
    = (m ((c : Thread nD τ).loc main_arg13) : Vec Ideal S1x1024 .f32) (ix2 0 k) := by
  unfold Gen.V
  after_reads_at

/-! ## The arguments, read row by row -/

/-- The input's 32768 rows, the two mixers' rows, and the memory's rows of batch `b`. -/
abbrev X (R : Fin 32768) : Fin 1024 → EReal := fun k =>
  (m ((c : Thread nD τ).loc main_arg0) : Vec Ideal S8x4096x1024 .f32) (ix3 ⟨R.val / 4096, by omega⟩ ⟨R.val % 4096, by omega⟩ k)
abbrev Sg (R : Fin 32768) : Fin 1024 → EReal := fun k => (m ((c : Thread nD τ).loc main_arg1) : Vec Ideal S32768x1024 .bf16) (ix2 R k)
abbrev At (R : Fin 32768) : Fin 1024 → EReal := fun k => (m ((c : Thread nD τ).loc main_arg2) : Vec Ideal S32768x1024 .bf16) (ix2 R k)
abbrev Kv (b : Fin 8) : Fin 256 → Fin 1024 → EReal := fun u k =>
  (m ((c : Thread nD τ).loc main_arg3) : Vec Ideal S2048x1024 .bf16) (ix2 ⟨256 * b.val + u.val, by omega⟩ k)
abbrev Wn : Fin 1024 → EReal := fun k => (m ((c : Thread nD τ).loc main_arg4) : Vec Ideal S1x1024 .f32) (ix2 0 k)
abbrev Wg : Fin 1024 → Fin 2048 → EReal := fun k j => (m ((c : Thread nD τ).loc main_arg5) : Vec Ideal S1x1024x2048 .f32) (ix3 0 k j)
abbrev Bg : Fin 2048 → EReal := fun k => (m ((c : Thread nD τ).loc main_arg6) : Vec Ideal S1x2048 .f32) (ix2 0 k)
abbrev Wa : Fin 1024 → Fin 1024 → EReal := fun k j => (m ((c : Thread nD τ).loc main_arg7) : Vec Ideal S1x1024x1024 .f32) (ix3 0 k j)
abbrev Wb : Fin 1024 → Fin 1024 → EReal := fun k j => (m ((c : Thread nD τ).loc main_arg8) : Vec Ideal S1x1024x1024 .f32) (ix3 0 k j)
abbrev Wo : Fin 1024 → Fin 1024 → EReal := fun k j => (m ((c : Thread nD τ).loc main_arg9) : Vec Ideal S1x1024x1024 .f32) (ix3 0 k j)
abbrev Wx : Fin 1024 → EReal := fun k => (m ((c : Thread nD τ).loc main_arg10) : Vec Ideal S1x1024 .f32) (ix2 0 k)
abbrev Wq : Fin 1024 → Fin 512 → EReal := fun k j => (m ((c : Thread nD τ).loc main_arg11) : Vec Ideal S1x1024x512 .f32) (ix3 0 k j)
abbrev Wv : Fin 512 → Fin 1024 → EReal := fun k j => (m ((c : Thread nD τ).loc main_arg12) : Vec Ideal S1x512x1024 .f32) (ix3 0 k j)
abbrev Wf : Fin 1024 → EReal := fun k => (m ((c : Thread nD τ).loc main_arg13) : Vec Ideal S1x1024 .f32) (ix2 0 k)

/-- The first residual of row `R`. -/
abbrev Hid (R : Fin 32768) : Fin 1024 → EReal :=
  hid (X m c R) (Sg m c R) (At m c R) (Wn m c) (Wg m c) (Bg m c) (Wa m c) (Wb m c) (Wo m c)
/-- The second residual of row `R`, whose batch is `R / 4096`. -/
abbrev Out (R : Fin 32768) : Fin 1024 → EReal :=
  cross (Hid m c R) (Wx m c) (Wq m c) (Kv m c ⟨R.val / 4096, by omega⟩) (Wv m c)

/-- The result arrays. -/
def G16 : Vec Ideal S32768x1024 .f32 := fun i => Out m c (i 0) (i 1)
def G17 : Vec Ideal S262144x128 .f32 := fun i =>
  rms (Out m c ⟨(i 0).val / 8, by have h : (i 0).val < 262144 := (i 0).isLt; omega⟩) (Wf m c)
    ⟨128 * ((i 0).val % 8) + (i 1).val, by have h : (i 1).val < 128 := (i 1).isLt; omega⟩

/-! ## The blocks -/

/-- The block indices at each point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val / 8 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)

theorem tlt (t : Fin cfg0.N) : t.val < 64 := t.isLt

/-- Row `i` of point `t`'s block of 512 rows, and of 4096 rows. -/
abbrev row (t : Fin cfg0.N) (i : Fin 512) : Fin 32768 := ⟨t.val * 512 + i.val, by have := tlt t; omega⟩
abbrev rowN (t : Fin cfg0.N) (i : Fin 4096) : Fin 262144 := ⟨t.val * 4096 + i.val, by have := tlt t; omega⟩
/-- The point's batch. -/
abbrev batch (t : Fin cfg0.N) : Fin 8 := ⟨t.val / 8, by have := tlt t; omega⟩

/-- Where a block's index lies in its array. -/
theorem emb0 (t : Fin cfg0.N) (i : Fin 512) (k : Fin 1024) :
    ((cfg0.win 0).blk t).view.emb (ix2 i k : S512x1024.Idx) = (ix2 (row t i) k : S32768x1024.Idx) := by
  obtain ⟨e0, e1⟩ := idx0 t
  funext a; apply Fin.ext
  match a with
  | ⟨0, _⟩ => show win0_0.index t (0 : Fin 2) * 512 + 1 * i.val = t.val * 512 + i.val; omega
  | ⟨1, _⟩ => show win0_0.index t (1 : Fin 2) * 1024 + 1 * k.val = k.val; omega
theorem emb1 (t : Fin cfg0.N) (i : Fin 512) (k : Fin 1024) :
    ((cfg0.win 1).blk t).view.emb (ix2 i k : S512x1024.Idx) = (ix2 (row t i) k : S32768x1024.Idx) := by
  obtain ⟨e0, e1⟩ := idx1 t
  funext a; apply Fin.ext
  match a with
  | ⟨0, _⟩ => show win0_1.index t (0 : Fin 2) * 512 + 1 * i.val = t.val * 512 + i.val; omega
  | ⟨1, _⟩ => show win0_1.index t (1 : Fin 2) * 1024 + 1 * k.val = k.val; omega
theorem emb2 (t : Fin cfg0.N) (i : Fin 512) (k : Fin 1024) :
    ((cfg0.win 2).blk t).view.emb (ix2 i k : S512x1024.Idx) = (ix2 (row t i) k : S32768x1024.Idx) := by
  obtain ⟨e0, e1⟩ := idx2 t
  funext a; apply Fin.ext
  match a with
  | ⟨0, _⟩ => show win0_2.index t (0 : Fin 2) * 512 + 1 * i.val = t.val * 512 + i.val; omega
  | ⟨1, _⟩ => show win0_2.index t (1 : Fin 2) * 1024 + 1 * k.val = k.val; omega
theorem emb16 (t : Fin cfg0.N) (i : Fin 512) (k : Fin 1024) :
    ((cfg0.win 16).blk t).view.emb (ix2 i k : S512x1024.Idx) = (ix2 (row t i) k : S32768x1024.Idx) := by
  obtain ⟨e0, e1⟩ := idx16 t
  funext a; apply Fin.ext
  match a with
  | ⟨0, _⟩ => show win0_16.index t (0 : Fin 2) * 512 + 1 * i.val = t.val * 512 + i.val; omega
  | ⟨1, _⟩ => show win0_16.index t (1 : Fin 2) * 1024 + 1 * k.val = k.val; omega
theorem emb3 (t : Fin cfg0.N) (i : Fin 256) (k : Fin 1024) :
    ((cfg0.win 3).blk t).view.emb (ix2 i k : S256x1024.Idx)
      = (ix2 ⟨256 * (batch t).val + i.val, by have := (batch t).isLt; omega⟩ k : S2048x1024.Idx) := by
  obtain ⟨e0, e1⟩ := idx3 t
  funext a; apply Fin.ext
  match a with
  | ⟨0, _⟩ => show win0_3.index t (0 : Fin 2) * 256 + 1 * i.val = 256 * (t.val / 8) + i.val; omega
  | ⟨1, _⟩ => show win0_3.index t (1 : Fin 2) * 1024 + 1 * k.val = k.val; omega
theorem emb17 (t : Fin cfg0.N) (i : Fin 4096) (k : Fin 128) :
    ((cfg0.win 17).blk t).view.emb (ix2 i k : S4096x128.Idx) = (ix2 (rowN t i) k : S262144x128.Idx) := by
  obtain ⟨e0, e1⟩ := idx17 t
  funext a; apply Fin.ext
  match a with
  | ⟨0, _⟩ => show win0_17.index t (0 : Fin 2) * 4096 + 1 * i.val = t.val * 4096 + i.val; omega
  | ⟨1, _⟩ => show win0_17.index t (1 : Fin 2) * 128 + 1 * k.val = k.val; omega
theorem emb4 (t : Fin cfg0.N) (j : S1x1024.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega
theorem emb5 (t : Fin cfg0.N) (j : S1024x2048.Idx) : ((cfg0.win 5).blk t).view.emb j = j := by
  obtain ⟨e0, e1⟩ := idx5 t
  funext a; apply Fin.ext
  match a with
  | ⟨0, _⟩ => show win0_5.index t (0 : Fin 2) * 1024 + 1 * (j 0).val = (j 0).val; omega
  | ⟨1, _⟩ => show win0_5.index t (1 : Fin 2) * 2048 + 1 * (j 1).val = (j 1).val; omega
theorem emb6 (t : Fin cfg0.N) (j : S1x2048.Idx) : ((cfg0.win 6).blk t).view.emb j = j := by
  obtain ⟨e0, e1⟩ := idx6 t
  funext a; apply Fin.ext
  match a with
  | ⟨0, _⟩ => show win0_6.index t (0 : Fin 2) * 1 + 1 * (j 0).val = (j 0).val; omega
  | ⟨1, _⟩ => show win0_6.index t (1 : Fin 2) * 2048 + 1 * (j 1).val = (j 1).val; omega
theorem emb7 (t : Fin cfg0.N) (j : S1024x1024.Idx) : ((cfg0.win 7).blk t).view.emb j = j := by
  obtain ⟨e0, e1⟩ := idx7 t
  funext a; apply Fin.ext
  match a with
  | ⟨0, _⟩ => show win0_7.index t (0 : Fin 2) * 1024 + 1 * (j 0).val = (j 0).val; omega
  | ⟨1, _⟩ => show win0_7.index t (1 : Fin 2) * 1024 + 1 * (j 1).val = (j 1).val; omega
theorem emb8 (t : Fin cfg0.N) (j : S1024x1024.Idx) : ((cfg0.win 8).blk t).view.emb j = j := by
  obtain ⟨e0, e1⟩ := idx8 t
  funext a; apply Fin.ext
  match a with
  | ⟨0, _⟩ => show win0_8.index t (0 : Fin 2) * 1024 + 1 * (j 0).val = (j 0).val; omega
  | ⟨1, _⟩ => show win0_8.index t (1 : Fin 2) * 1024 + 1 * (j 1).val = (j 1).val; omega
theorem emb9 (t : Fin cfg0.N) (j : S1024x1024.Idx) : ((cfg0.win 9).blk t).view.emb j = j := by
  obtain ⟨e0, e1⟩ := idx9 t
  funext a; apply Fin.ext
  match a with
  | ⟨0, _⟩ => show win0_9.index t (0 : Fin 2) * 1024 + 1 * (j 0).val = (j 0).val; omega
  | ⟨1, _⟩ => show win0_9.index t (1 : Fin 2) * 1024 + 1 * (j 1).val = (j 1).val; omega
theorem emb10 (t : Fin cfg0.N) (j : S1x1024.Idx) : ((cfg0.win 10).blk t).view.emb j = j := by
  obtain ⟨e0, e1⟩ := idx10 t
  funext a; apply Fin.ext
  match a with
  | ⟨0, _⟩ => show win0_10.index t (0 : Fin 2) * 1 + 1 * (j 0).val = (j 0).val; omega
  | ⟨1, _⟩ => show win0_10.index t (1 : Fin 2) * 1024 + 1 * (j 1).val = (j 1).val; omega
theorem emb11 (t : Fin cfg0.N) (j : S1024x512.Idx) : ((cfg0.win 11).blk t).view.emb j = j := by
  obtain ⟨e0, e1⟩ := idx11 t
  funext a; apply Fin.ext
  match a with
  | ⟨0, _⟩ => show win0_11.index t (0 : Fin 2) * 1024 + 1 * (j 0).val = (j 0).val; omega
  | ⟨1, _⟩ => show win0_11.index t (1 : Fin 2) * 512 + 1 * (j 1).val = (j 1).val; omega
theorem emb12 (t : Fin cfg0.N) (j : S512x1024.Idx) : ((cfg0.win 12).blk t).view.emb j = j := by
  obtain ⟨e0, e1⟩ := idx12 t
  funext a; apply Fin.ext
  match a with
  | ⟨0, _⟩ => show win0_12.index t (0 : Fin 2) * 512 + 1 * (j 0).val = (j 0).val; omega
  | ⟨1, _⟩ => show win0_12.index t (1 : Fin 2) * 1024 + 1 * (j 1).val = (j 1).val; omega
theorem emb13 (t : Fin cfg0.N) (j : S1x1024.Idx) : ((cfg0.win 13).blk t).view.emb j = j := by
  obtain ⟨e0, e1⟩ := idx13 t
  funext a; apply Fin.ext
  match a with
  | ⟨0, _⟩ => show win0_13.index t (0 : Fin 2) * 1 + 1 * (j 0).val = (j 0).val; omega
  | ⟨1, _⟩ => show win0_13.index t (1 : Fin 2) * 1024 + 1 * (j 1).val = (j 1).val; omega

/-- The input blocks, by the arguments. -/
theorem blk0_eq (t : Fin cfg0.N) (i : Fin 512) : brow (iblk m c 0 t) i = X m c (row t i) := by
  funext k
  show Gen.V m c main_v0 (((cfg0.win 0).blk t).view.emb (ix2 i k : S512x1024.Idx)) = _
  rw [emb0]; exact V0_at m c _ k
theorem blk1_eq (t : Fin cfg0.N) (i : Fin 512) : browb (iblk m c 1 t) i = Sg m c (row t i) := by
  funext k
  show Gen.V m c main_arg1 (((cfg0.win 1).blk t).view.emb (ix2 i k : S512x1024.Idx)) = _
  rw [emb1, V_main_arg1]
theorem blk2_eq (t : Fin cfg0.N) (i : Fin 512) : browb (iblk m c 2 t) i = At m c (row t i) := by
  funext k
  show Gen.V m c main_arg2 (((cfg0.win 2).blk t).view.emb (ix2 i k : S512x1024.Idx)) = _
  rw [emb2, V_main_arg2]
theorem blk3_eq (t : Fin cfg0.N) : kvr (iblk m c 3 t) = Kv m c (batch t) := by
  funext u k
  show Gen.V m c main_arg3 (((cfg0.win 3).blk t).view.emb (ix2 u k : S256x1024.Idx)) = _
  rw [emb3, V_main_arg3]
theorem blk4_eq (t : Fin cfg0.N) : sc (iblk m c 4 t) = Wn m c := by
  funext k
  show Gen.V m c main_v14 (((cfg0.win 4).blk t).view.emb (ix2 0 k : S1x1024.Idx)) = _
  rw [emb4]; exact V14_at m c k
theorem blk5_eq (t : Fin cfg0.N) : gw (iblk m c 5 t) = Wg m c := by
  funext k j
  show Gen.V m c main_v16 (((cfg0.win 5).blk t).view.emb (ix2 k j : S1024x2048.Idx)) = _
  rw [emb5]; exact V16_at m c k j
theorem blk6_eq (t : Fin cfg0.N) : gb (iblk m c 6 t) = Bg m c := by
  funext k
  show Gen.V m c main_v18 (((cfg0.win 6).blk t).view.emb (ix2 0 k : S1x2048.Idx)) = _
  rw [emb6]; exact V18_at m c k
theorem blk7_eq (t : Fin cfg0.N) : sq (iblk m c 7 t) = Wa m c := by
  funext k j
  show Gen.V m c main_v20 (((cfg0.win 7).blk t).view.emb (ix2 k j : S1024x1024.Idx)) = _
  rw [emb7]; exact V20_at m c k j
theorem blk8_eq (t : Fin cfg0.N) : sq (iblk m c 8 t) = Wb m c := by
  funext k j
  show Gen.V m c main_v22 (((cfg0.win 8).blk t).view.emb (ix2 k j : S1024x1024.Idx)) = _
  rw [emb8]; exact V22_at m c k j
theorem blk9_eq (t : Fin cfg0.N) : sq (iblk m c 9 t) = Wo m c := by
  funext k j
  show Gen.V m c main_v24 (((cfg0.win 9).blk t).view.emb (ix2 k j : S1024x1024.Idx)) = _
  rw [emb9]; exact V24_at m c k j
theorem blk10_eq (t : Fin cfg0.N) : sc (iblk m c 10 t) = Wx m c := by
  funext k
  show Gen.V m c main_v26 (((cfg0.win 10).blk t).view.emb (ix2 0 k : S1x1024.Idx)) = _
  rw [emb10]; exact V26_at m c k
theorem blk11_eq (t : Fin cfg0.N) : qw (iblk m c 11 t) = Wq m c := by
  funext k j
  show Gen.V m c main_v28 (((cfg0.win 11).blk t).view.emb (ix2 k j : S1024x512.Idx)) = _
  rw [emb11]; exact V28_at m c k j
theorem blk12_eq (t : Fin cfg0.N) : ow (iblk m c 12 t) = Wv m c := by
  funext k j
  show Gen.V m c main_v30 (((cfg0.win 12).blk t).view.emb (ix2 k j : S512x1024.Idx)) = _
  rw [emb12]; exact V30_at m c k j
theorem blk13_eq (t : Fin cfg0.N) : sc (iblk m c 13 t) = Wf m c := by
  funext k
  show Gen.V m c main_v32 (((cfg0.win 13).blk t).view.emb (ix2 0 k : S1x1024.Idx)) = _
  rw [emb13]; exact V32_at m c k

/-- The second residual of row `i` of the point's blocks is that of the array's row. -/
theorem blockOut_eq (t : Fin cfg0.N) (i : Fin 512) : blockOut c m t i = Out m c (row t i) := by
  have e : batch t = ⟨(row t i).val / 4096, by have := (row t i).isLt; omega⟩ := Fin.ext (by
    show t.val / 8 = (t.val * 512 + i.val) / 4096; omega)
  unfold blockOut outb
  rw [blk0_eq, blk1_eq, blk2_eq, blk3_eq, blk4_eq, blk5_eq, blk6_eq, blk7_eq, blk8_eq, blk9_eq, blk10_eq, blk11_eq, blk12_eq, e]

/-- What each point writes back is its block of the result array. -/
theorem flushed16_eq (t : Fin cfg0.N) :
    (dats m 0 c).flushed 16 t = ((cfg0.win 16).blk t).view.read (Elt Ideal) (G16 m c) := by
  rw [show (dats m 0 c).flushed 16 t = (dats m 0 c).after 16 t from rfl, after16]
  funext (j : S512x1024.Idx)
  idx_vars j
  show out16 m c t (ix2 j0 j1) = G16 m c (((cfg0.win 16).blk t).view.emb (ix2 j0 j1 : S512x1024.Idx))
  rw [emb16, out16_at, blockOut_eq]
  rfl
theorem flushed17_eq (t : Fin cfg0.N) :
    (dats m 0 c).flushed 17 t = ((cfg0.win 17).blk t).view.read (Elt Ideal) (G17 m c) := by
  rw [show (dats m 0 c).flushed 17 t = (dats m 0 c).after 17 t from rfl, after17]
  funext (j : S4096x128.Idx)
  idx_vars j
  show out17 m c t (ix2 j0 j1) = G17 m c (((cfg0.win 17).blk t).view.emb (ix2 j0 j1 : S4096x128.Idx))
  rw [emb17, out17_at, blockOut_eq, blk13_eq]
  have e : row t ⟨j0.val / 8, by omega⟩ = ⟨(rowN t j0).val / 8, by have := (rowN t j0).isLt; omega⟩ := Fin.ext (by
    show t.val * 512 + j0.val / 8 = (t.val * 4096 + j0.val) / 8; omega)
  have e' : (⟨128 * (j0.val % 8) + j1.val, by omega⟩ : Fin 1024) = ⟨128 * ((rowN t j0).val % 8) + j1.val, by omega⟩ := Fin.ext (by
    show 128 * (j0.val % 8) + j1.val = 128 * ((t.val * 4096 + j0.val) % 8) + j1.val; omega)
  rw [e, e']
  rfl

/-- The blocks cover the arrays. -/
theorem covered16 (i : S32768x1024.Idx) :
    ∃ t : Fin cfg0.N, (cfg0.win 16).flush t = true ∧ i ∈ ((cfg0.win 16).blk t).view.set := by
  idx_vars i
  refine ⟨(⟨i0.val / 512, by show i0.val / 512 < 64; omega⟩ : Fin cfg0.N), flush0_16 _, ?_⟩
  have h := ((cfg0.win 16).blk (⟨i0.val / 512, by show i0.val / 512 < 64; omega⟩ : Fin cfg0.N)).view.emb_mem_set
    (ix2 (⟨i0.val % 512, by omega⟩ : Fin 512) i1 : S512x1024.Idx)
  rw [emb16] at h
  rwa [show row (⟨i0.val / 512, by show i0.val / 512 < 64; omega⟩ : Fin cfg0.N) ⟨i0.val % 512, by omega⟩ = i0 from
    Fin.ext (by show i0.val / 512 * 512 + i0.val % 512 = i0.val; omega)] at h
theorem covered17 (i : S262144x128.Idx) :
    ∃ t : Fin cfg0.N, (cfg0.win 17).flush t = true ∧ i ∈ ((cfg0.win 17).blk t).view.set := by
  idx_vars i
  refine ⟨(⟨i0.val / 4096, by show i0.val / 4096 < 64; omega⟩ : Fin cfg0.N), flush0_17 _, ?_⟩
  have h := ((cfg0.win 17).blk (⟨i0.val / 4096, by show i0.val / 4096 < 64; omega⟩ : Fin cfg0.N)).view.emb_mem_set
    (ix2 (⟨i0.val % 4096, by omega⟩ : Fin 4096) i1 : S4096x128.Idx)
  rw [emb17] at h
  rwa [show rowN (⟨i0.val / 4096, by show i0.val / 4096 < 64; omega⟩ : Fin cfg0.N) ⟨i0.val % 4096, by omega⟩ = i0 from
    Fin.ext (by show i0.val / 4096 * 4096 + i0.val % 4096 = i0.val; omega)] at h

/-- The result arrays after the run. -/
theorem final16 : (dats m 0 c).arrAt 16 cfg0.N = G16 m c :=
  (dats m 0 c).arrAt_eq_of_cover 16 (G16 m c) (fun t _ => flushed16_eq m c t) covered16
theorem final17 : (dats m 0 c).arrAt 17 cfg0.N = G17 m c :=
  (dats m 0 c).arrAt_eq_of_cover 17 (G17 m c) (fun t _ => flushed17_eq m c t) covered17

end Cert.PostIdeal.Arrays

end
-- ==== Proof.PostReference.lean ====
/- THE REFERENCE'S ARRAYS ROW BY ROW: each result of the merge and cross-attention's reference, at an index, is the row
   function of PostSpec.lean at the arguments' rows. Token `R` of the 32768 is row `R % 4096` of batch `R / 4096`; batch
   `b` attends to the memory rows `256 b` to `256 b + 255`. -/
module

public import proofs.«01_k».proof.Proof.Gen.PostRefIdeal.Read
public import proofs.«01_k».proof.Proof.PostSpec

@[expose] public section

noncomputable section

namespace Cert.PostRefIdeal.RefValue

open Cert.PostRefIdeal Cert.PostRefIdeal.Read Idealize.ShloMosaic Cert.Spec

set_option maxRecDepth 16384

variable (x0 : (⟨S8x4096x1024, .f32⟩ : BufTy).Contents (Elt Ideal)) (x1 x2 : (⟨S32768x1024, .bf16⟩ : BufTy).Contents (Elt Ideal))
  (x3 : (⟨S2048x1024, .bf16⟩ : BufTy).Contents (Elt Ideal)) (x4 : (⟨S1x1024, .f32⟩ : BufTy).Contents (Elt Ideal))
  (x5 : (⟨S1x1024x2048, .f32⟩ : BufTy).Contents (Elt Ideal)) (x6 : (⟨S1x2048, .f32⟩ : BufTy).Contents (Elt Ideal))
  (x7 x8 x9 : (⟨S1x1024x1024, .f32⟩ : BufTy).Contents (Elt Ideal)) (x10 : (⟨S1x1024, .f32⟩ : BufTy).Contents (Elt Ideal))
  (x11 : (⟨S1x1024x512, .f32⟩ : BufTy).Contents (Elt Ideal)) (x12 : (⟨S1x512x1024, .f32⟩ : BufTy).Contents (Elt Ideal))
  (x13 : (⟨S1x1024, .f32⟩ : BufTy).Contents (Elt Ideal))

/-- The token's row among the 32768. -/
abbrev tok (b : Fin 8) (t : Fin 4096) : Fin 32768 := ⟨4096 * b.val + t.val, by omega⟩
/-- Row `t` of batch `b` of the input. -/
abbrev xr (b : Fin 8) (t : Fin 4096) : Fin 1024 → EReal := fun k => x0 (ix3 b t k)
/-- The token's row of a mixer's output. -/
abbrev mr (x : (⟨S32768x1024, .bf16⟩ : BufTy).Contents (Elt Ideal)) (b : Fin 8) (t : Fin 4096) : Fin 1024 → EReal :=
  fun k => x (ix2 (tok b t) k)
/-- The memory's keys and values of batch `b`. -/
abbrev kv (b : Fin 8) : Fin 256 → Fin 1024 → EReal := fun m c => x3 (ix2 ⟨256 * b.val + m.val, by omega⟩ c)
/-- The one row of a scale. -/
abbrev sc (x : (⟨S1x1024, .f32⟩ : BufTy).Contents (Elt Ideal)) : Fin 1024 → EReal := fun k => x (ix2 0 k)
abbrev gw : Fin 1024 → Fin 2048 → EReal := fun k c => x5 (ix3 0 k c)
abbrev gb : Fin 2048 → EReal := fun c => x6 (ix2 0 c)
abbrev sq (x : (⟨S1x1024x1024, .f32⟩ : BufTy).Contents (Elt Ideal)) : Fin 1024 → Fin 1024 → EReal := fun k c => x (ix3 0 k c)
abbrev qw : Fin 1024 → Fin 512 → EReal := fun k c => x11 (ix3 0 k c)
abbrev ow : Fin 512 → Fin 1024 → EReal := fun k c => x12 (ix3 0 k c)

/-- The token's first residual. -/
abbrev hidr (b : Fin 8) (t : Fin 4096) : Fin 1024 → EReal :=
  hid (xr x0 b t) (mr x1 b t) (mr x2 b t) (sc x4) (gw x5) (gb x6) (sq x7) (sq x8) (sq x9)

/-- The normed input. -/
theorem v13_at (b : Fin 8) (t : Fin 4096) (j : Fin 1024) :
    val_main_v13 (F := Ideal) x0 x4 (ix3 b t j) = rms (xr x0 b t) (sc x4) j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem v17_at (b : Fin 8) (t : Fin 4096) (j : Fin 1024) :
    val_main_v17 (F := Ideal) x1 x7 (ix3 b t j) = vec (mr x1 b t) (sq x7) j := by
  pointwise [val_main_v17, val_main_v16, val_main_v15, val_main_v14]
  exact Finset.sum_congr rfl fun k _ =>
    congrArg (fun r => x1 (ix2 r k) * x7 (ix3 0 k j)) (Fin.ext (by show b.val * 4096 + t.val = 4096 * b.val + t.val; omega))

theorem v21_at (b : Fin 8) (t : Fin 4096) (j : Fin 1024) :
    val_main_v21 (F := Ideal) x2 x8 (ix3 b t j) = vec (mr x2 b t) (sq x8) j := by
  pointwise [val_main_v21, val_main_v20, val_main_v19, val_main_v18]
  exact Finset.sum_congr rfl fun k _ =>
    congrArg (fun r => x2 (ix2 r k) * x8 (ix3 0 k j)) (Fin.ext (by show b.val * 4096 + t.val = 4096 * b.val + t.val; omega))

/-- The gates. -/
theorem v33_at (b : Fin 8) (t : Fin 4096) (c : Fin 2048) :
    val_main_v33 (F := Ideal) x0 x4 x5 x6 (ix3 b t c) = gate (xr x0 b t) (sc x4) (gw x5) (gb x6) c := by
  pointwise [val_main_v33, val_main_v32, val_main_v31, val_main_v30, val_main_v29, val_main_v28, val_main_v27, val_main_v26,
    val_main_v25, val_main_v24, val_main_v23, val_main_v22, val_main_cst_2, val_main_cst_3]
  simp only [v13_at]
  rfl

theorem v41_at (b : Fin 8) (t : Fin 4096) (k : Fin 1024) :
    val_main_v41 (F := Ideal) x0 x1 x2 x4 x5 x6 x7 x8 (ix3 b t k)
      = merged (xr x0 b t) (mr x1 b t) (mr x2 b t) (sc x4) (gw x5) (gb x6) (sq x7) (sq x8) k := by
  pointwise [val_main_v41, val_main_v40, val_main_v39, val_main_v38, val_main_v37, val_main_v36, val_main_v35, val_main_v34]
  simp only [v33_at, v17_at, v21_at]
  rfl

/-- The first residual. -/
theorem v44_at (b : Fin 8) (t : Fin 4096) (j : Fin 1024) :
    val_main_v44 (F := Ideal) x0 x1 x2 x4 x5 x6 x7 x8 x9 (ix3 b t j) = hidr x0 x1 x2 x4 x5 x6 x7 x8 x9 b t j := by
  pointwise [val_main_v44, val_main_v43, val_main_v42]
  simp only [v41_at]
  rfl

/-- The queries, not scaled. -/
theorem v60_at (b : Fin 8) (t : Fin 4096) (c : Fin 512) :
    val_main_v60 (F := Ideal) x0 x1 x2 x4 x5 x6 x7 x8 x9 x10 x11 (ix3 b t c)
      = vec (rms (hidr x0 x1 x2 x4 x5 x6 x7 x8 x9 b t) (sc x10)) (qw x11) c := by
  pointwise [val_main_v60, val_main_v59, val_main_v58, val_main_v57, val_main_v56, val_main_v55, val_main_v54, val_main_v53,
    val_main_v52, val_main_v51, val_main_v50, val_main_v49, val_main_v48, val_main_v47, val_main_v46, val_main_v45,
    val_main_cst_4, val_main_cst_5, val_main_cst_6]
  simp only [v44_at]
  rfl

/-- The keys of head `h`. -/
theorem v65_at (b : Fin 8) (m : Fin 256) (h : Fin 4) (d : Fin 128) :
    val_main_v65 (F := Ideal) x3 (ix4 b m h d) = kv x3 b m ⟨128 * h.val + d.val, by omega⟩ := by
  pointwise [val_main_v65, val_main_v64, val_main_v63, val_main_v62]
  exact congrArg₂ (fun r c => x3 (ix2 r c)) (Fin.ext (by show b.val * 256 + m.val = 256 * b.val + m.val; omega))
    (Fin.ext (by show h.val * 128 + d.val = 128 * h.val + d.val; omega))

/-- The values of head `h`. -/
theorem v67_at (b : Fin 8) (m : Fin 256) (h : Fin 4) (d : Fin 128) :
    val_main_v67 (F := Ideal) x3 (ix4 b m h d) = kv x3 b m ⟨512 + (128 * h.val + d.val), by omega⟩ := by
  pointwise [val_main_v67, val_main_v66, val_main_v63, val_main_v62]
  exact congrArg₂ (fun r c => x3 (ix2 r c)) (Fin.ext (by show b.val * 256 + m.val = 256 * b.val + m.val; omega))
    (Fin.ext (by show 512 + h.val * 128 + d.val = 512 + (128 * h.val + d.val); omega))

/-- The scores of head `h`, scaled after the product. -/
theorem v70_at (b : Fin 8) (h : Fin 4) (t : Fin 4096) (m : Fin 256) (d : Fin 128) :
    val_main_v70 (F := Ideal) x0 x1 x2 x3 x4 x5 x6 x7 x8 x9 x10 x11 (ix4 b h t m)
      = scoresAfter (hidr x0 x1 x2 x4 x5 x6 x7 x8 x9 b t) (sc x10) (qw x11) (kv x3 b) ⟨128 * h.val + d.val, by omega⟩ m := by
  pointwise [val_main_v70, val_main_v69, val_main_v68, val_main_v61, val_main_cst_7]
  simp only [v60_at, v65_at]
  refine congrArg (· * scale) (Finset.sum_congr rfl fun e _ => ?_)
  exact congrArg₂ (fun a c => vec (rms (hidr x0 x1 x2 x4 x5 x6 x7 x8 x9 b t) (sc x10)) (qw x11) a * kv x3 b m c)
    (Fin.ext (by show h.val * 128 + e.val = 128 * ((128 * h.val + d.val) / 128) + e.val; omega))
    (Fin.ext (by show 128 * h.val + e.val = 128 * ((128 * h.val + d.val) / 128) + e.val; omega))

/-- A maximum over the last axis. -/
theorem rowMax (v : FVec Ideal S8x4x4096x256 .f32) (c : FVec Ideal S_ .f32)
    (r : S8x4x4096x256.ReducesTo [3] S8x4x4096) (h : 0 < S_.numel) (j : S8x4x4096.Idx) :
    Host.reduce FloatOps.maximumf v c r h j
      = Finset.univ.fold max (c (Shape.Idx.first h)) fun k : Fin 256 => v (ix4 (j 0) (j 1) (j 2) k) := by
  simp only [pointwise]

theorem v71_at (b : Fin 8) (h : Fin 4) (t : Fin 4096) :
    val_main_v71 (F := Ideal) x0 x1 x2 x3 x4 x5 x6 x7 x8 x9 x10 x11 (ix3 b h t)
      = top fun m => val_main_v70 (F := Ideal) x0 x1 x2 x3 x4 x5 x6 x7 x8 x9 x10 x11 (ix4 b h t m) := by
  rw [val_main_v71, rowMax]
  rfl

/-- The greatest score of a row of head `h`. -/
theorem v73_at (b : Fin 8) (h : Fin 4) (t : Fin 4096) (d : Fin 128) :
    val_main_v73 (F := Ideal) x0 x1 x2 x3 x4 x5 x6 x7 x8 x9 x10 x11 (ix3 b h t)
      = top (scoresAfter (hidr x0 x1 x2 x4 x5 x6 x7 x8 x9 b t) (sc x10) (qw x11) (kv x3 b) ⟨128 * h.val + d.val, by omega⟩) := by
  rw [val_main_v73_apply, v71_at, funext fun m => v70_at x0 x1 x2 x3 x4 x5 x6 x7 x8 x9 x10 x11 b h t m d]
  exact max_eq_right (lowest.le.trans bot_le)

/-- The weights before the division. -/
theorem v77_at (b : Fin 8) (h : Fin 4) (t : Fin 4096) (m : Fin 256) (d : Fin 128) :
    val_main_v77 (F := Ideal) x0 x1 x2 x3 x4 x5 x6 x7 x8 x9 x10 x11 (ix4 b h t m)
      = Ideal.exp (scoresAfter (hidr x0 x1 x2 x4 x5 x6 x7 x8 x9 b t) (sc x10) (qw x11) (kv x3 b) ⟨128 * h.val + d.val, by omega⟩ m
          - top (scoresAfter (hidr x0 x1 x2 x4 x5 x6 x7 x8 x9 b t) (sc x10) (qw x11) (kv x3 b) ⟨128 * h.val + d.val, by omega⟩)) := by
  pointwise [val_main_v77, val_main_v76, val_main_v75, val_main_v74]
  rw [v70_at x0 x1 x2 x3 x4 x5 x6 x7 x8 x9 x10 x11 b h t _ d, v73_at x0 x1 x2 x3 x4 x5 x6 x7 x8 x9 x10 x11 b h t d]

/-- The attention's output of head `h`, before it is put back in the token's row. -/
theorem v82_at (b : Fin 8) (h : Fin 4) (d : Fin 128) (t : Fin 4096) :
    val_main_v82 (F := Ideal) x0 x1 x2 x3 x4 x5 x6 x7 x8 x9 x10 x11 (ix4 b h d t)
      = attendSoft (scoresAfter (hidr x0 x1 x2 x4 x5 x6 x7 x8 x9 b t) (sc x10) (qw x11) (kv x3 b) ⟨128 * h.val + d.val, by omega⟩)
          (fun m => kv x3 b m (valCol ⟨128 * h.val + d.val, by omega⟩)) := by
  pointwise [val_main_v82, val_main_v81, val_main_v80, val_main_v79, val_main_v78, val_main_cst_10]
  simp only [v67_at, v77_at x0 x1 x2 x3 x4 x5 x6 x7 x8 x9 x10 x11 b h t _ d]
  rfl

/-- The second residual. -/
theorem v87_at (b : Fin 8) (t : Fin 4096) (j : Fin 1024) :
    val_main_v87 (F := Ideal) x0 x1 x2 x3 x4 x5 x6 x7 x8 x9 x10 x11 x12 (ix3 b t j)
      = crossSoft (hidr x0 x1 x2 x4 x5 x6 x7 x8 x9 b t) (sc x10) (qw x11) (kv x3 b) (ow x12) j := by
  pointwise [val_main_v87, val_main_v86, val_main_v85, val_main_v84, val_main_v83]
  simp only [v44_at, v82_at]
  refine congrArg (hidr x0 x1 x2 x4 x5 x6 x7 x8 x9 b t j + ·) (Finset.sum_congr rfl fun c _ => ?_)
  exact congrArg (fun e : Fin 512 => attendSoft (scoresAfter (hidr x0 x1 x2 x4 x5 x6 x7 x8 x9 b t) (sc x10) (qw x11) (kv x3 b) e)
    (fun m => kv x3 b m (valCol e)) * x12 (ix3 0 c j)) (Fin.ext (by show 128 * (c.val / 128) + c.val % 128 = c.val; omega))

/-- The second residual, normed. -/
theorem v101_at (b : Fin 8) (t : Fin 4096) (j : Fin 1024) :
    val_main_v101 (F := Ideal) x0 x1 x2 x3 x4 x5 x6 x7 x8 x9 x10 x11 x12 x13 (ix3 b t j)
      = rms (crossSoft (hidr x0 x1 x2 x4 x5 x6 x7 x8 x9 b t) (sc x10) (qw x11) (kv x3 b) (ow x12)) (sc x13) j := by
  pointwise [val_main_v101, val_main_v100, val_main_v99, val_main_v98, val_main_v97, val_main_v96, val_main_v95, val_main_v94,
    val_main_v93, val_main_v92, val_main_v91, val_main_v90, val_main_v89, val_main_v88, val_main_cst_11, val_main_cst_12, val_main_cst_13]
  simp only [v87_at]
  rfl

/-- The first result: row `R` is the token's second residual. -/
theorem v102_at (R : Fin 32768) (j : Fin 1024) :
    val_main_v102 (F := Ideal) x0 x1 x2 x3 x4 x5 x6 x7 x8 x9 x10 x11 x12 (ix2 R j)
      = crossSoft (hidr x0 x1 x2 x4 x5 x6 x7 x8 x9 ⟨R.val / 4096, by omega⟩ ⟨R.val % 4096, by omega⟩) (sc x10) (qw x11)
          (kv x3 ⟨R.val / 4096, by omega⟩) (ow x12) j := by
  pointwise [val_main_v102]
  exact v87_at ..

/-- The second result: row `8 R + q`, lane `l` is column `128 q + l` of the token `R`'s normed row. -/
theorem v103_at (r : Fin 262144) (l : Fin 128) :
    val_main_v103 (F := Ideal) x0 x1 x2 x3 x4 x5 x6 x7 x8 x9 x10 x11 x12 x13 (ix2 r l)
      = rms (crossSoft (hidr x0 x1 x2 x4 x5 x6 x7 x8 x9 ⟨r.val / 8 / 4096, by omega⟩ ⟨r.val / 8 % 4096, by omega⟩) (sc x10)
          (qw x11) (kv x3 ⟨r.val / 8 / 4096, by omega⟩) (ow x12)) (sc x13) ⟨128 * (r.val % 8) + l.val, by omega⟩ := by
  pointwise [val_main_v103]
  rw [v101_at, show (⟨r.val / 32768, by omega⟩ : Fin 8) = ⟨r.val / 8 / 4096, by omega⟩ from Fin.ext (by show r.val / 32768 = r.val / 8 / 4096; omega)]
  exact congrArg _ (Fin.ext (by show r.val % 8 * 128 + l.val = 128 * (r.val % 8) + l.val; omega))

end Cert.PostRefIdeal.RefValue

end
-- ==== Proof.PostPre.lean ====
/- THE PRECONDITION READ: where `finite_inputs` holds, every element of the twelve arguments it names is a real number. -/
module

public import proofs.«01_k».proof.Pre_finite_inputs
public import proofs.«01_k».proof.Proof.PostSpec
public import Idealize.ShloMosaic.Lib.ReduceAll
public import Idealize.ShloMosaic.Lib.Pointwise

@[expose] public section

noncomputable section

namespace Cert.PostPre

open Idealize.ShloMosaic Cert.Spec Cert.Pre_finite_inputs Cert.Pre_finite_inputs.Facts

/-- A value whose absolute value is below infinity is a real number. -/
theorem real_of_abs_lt {a : EReal} (h : max a (-a) < Ideal.ofBits .f32 0x7F800000#32) : IsReal a := by
  rw [show Ideal.ofBits .f32 0x7F800000#32 = ⊤ by simp [Ideal.ofBits, Ideal.ieee]] at h
  induction a with
  | bot => simp at h
  | top => simp at h
  | coe r => exact ⟨r, rfl⟩

/-- One argument's conjunct: all of its elements are real numbers. -/
theorem all_real {S : Shape} {axes : List (Fin S.rank)} (x : FVec Ideal S .f32) (b : S_.BroadcastsInDim S (![] : Fin 0 → Fin S.rank))
    (h : S.ReducesTo axes S_) (hu : 0 < S_.numel) (j : S_.Idx)
    (e : Host.reduce IntOp.andi (cmpf .olt (Host.absf x) (broadcastInDim S ![] b (constant S_ .f32 0x7F800000#32)))
      (constantI S_ 1 1#1) h hu j = 1#1) (i : S.Idx) : IsReal (x i) := by
  haveI : Subsingleton S_.Idx := ⟨fun a b => funext fun k => k.elim0⟩
  have e := Host.reduce_andi_all _ _ _ _ j e i
  have e : BitVec.ofBool (decide (max (x i) (-(x i)) < Ideal.ofBits .f32 0x7F800000#32)) = 1#1 := e
  refine real_of_abs_lt ?_
  by_contra hn
  rw [decide_eq_false hn] at e
  exact absurd e (by decide)

variable [Facts]
  (x0 : FVec Ideal S8x4096x1024 .f32) (x1 x2 : FVec Ideal S32768x1024 .bf16) (x3 : FVec Ideal S2048x1024 .bf16)
  (x4 : FVec Ideal S1x1024 .f32) (x5 : FVec Ideal S1x1024x2048 .f32) (x6 : FVec Ideal S1x2048 .f32)
  (x7 x8 x9 : FVec Ideal S1x1024x1024 .f32) (x10 : FVec Ideal S1x1024 .f32) (x11 : FVec Ideal S1x1024x512 .f32)
  (x12 : FVec Ideal S1x512x1024 .f32) (x13 : FVec Ideal S1x1024 .f32) (x14 : FVec Ideal S1x1024x8 .f32)
  (x15 : FVec Ideal S1x8 .f32) (x16 : FVec Ideal S1x1024x64 .f32) (x17 : FVec Ideal S1x64 .f32)

/-- The precondition, element by element. -/
theorem real_inputs (h : fn (F := Ideal) x0 x1 x2 x3 x4 x5 x6 x7 x8 x9 x10 x11 x12 x13 x14 x15 x16 x17 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) ∧ (∀ i, IsReal (x9 i))
      ∧ (∀ i, IsReal (x10 i)) ∧ (∀ i, IsReal (x11 i)) := by
  have j : S_.Idx := fun k => k.elim0
  have h := congrFun h j
  unfold fn fn_part1 fn_part2 fn_part3 at h
  dsimp only at h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real x0 _ _ _ j h0, all_real (extf .f32 x1 bitsLt_bf16_f32) _ _ _ j h1, all_real (extf .f32 x2 bitsLt_bf16_f32) _ _ _ j h2,
    all_real (extf .f32 x3 bitsLt_bf16_f32) _ _ _ j h3, all_real x4 _ _ _ j h4, all_real x5 _ _ _ j h5, all_real x6 _ _ _ j h6,
    all_real x7 _ _ _ j h7, all_real x8 _ _ _ j h8, all_real x9 _ _ _ j h9, all_real x10 _ _ _ j h10, all_real x11 _ _ _ j h11⟩

end Cert.PostPre

end
-- ==== Proof.PostSame.lean ====
/- THE TWO PRINTINGS OF THE MERGE AND CROSS-ATTENTION KERNEL, `Post` and `PostIdeal`, are one program: nothing was
   rewritten in the second. Stated for the words, so that the run of `PostFrame.lean` is the first one's run too. -/
module

public import proofs.«01_k».proof.Defs
public import proofs.«01_k».proof.Proof.Gen.Post.Frame
public import proofs.«01_k».proof.Proof.Gen.PostIdeal.Frame
public import Idealize.ShloMosaic.Adequacy

@[expose] public section

set_option maxRecDepth 16384

noncomputable section

namespace Cert.PostSame

open Idealize.ShloMosaic Idealize.ShloMosaic.TcCoe Idealize.SL.Sem

set_option maxHeartbeats 8000000
set_option backward.isDefEq.respectTransparency.types false

/-- The kernels' tables agree: at the one label both are the kernel. -/
theorem kernels_eq : Cert.Post.defs₀ (F := Bits) = Cert.PostIdeal.defs₀ (F := Bits) := by
  unfold Cert.Post.defs₀ Cert.PostIdeal.defs₀
  with_unfolding_all (refine congrArg _ ?_)
  funext l a
  match l with
  | 0 =>
    obtain ⟨t, s⟩ := a
    dsimp only
    with_unfolding_all rfl
  | ⟨n + 1, h⟩ => exact absurd h (Nat.not_lt.2 (Nat.le_add_left _ _))

/-- The body tables agree. -/
theorem defs_eq : Cert.Post.defs (F := Bits) = Cert.PostIdeal.defs (F := Bits) := by
  unfold Cert.Post.defs Cert.PostIdeal.defs
  with_unfolding_all exact congrArg (Pipeline.defs (Cert.PostIdeal.pcfgs (F := Bits))) kernels_eq

/-- The host programs agree. -/
theorem main_eq : Cert.Post.main (F := Bits) = Cert.PostIdeal.main (F := Bits) := by
  with_unfolding_all rfl

end Cert.PostSame

end
-- ==== Proof.PostClaim.lean ====
/- THE MERGE AND CROSS-ATTENTION CALL'S CLAIMS: the frames, and that the kernel's two float result arrays are the
   reference's where the arguments that the attention's scores depend on are finite. -/
module

public import proofs.«01_k».proof.Defs
public import proofs.«01_k».proof.Proof.Gen.Post.Frame
public import proofs.«01_k».proof.Proof.Gen.PostRefIdeal.Run
public import proofs.«01_k».proof.Proof.Gen.Pre_finite_inputs
public import proofs.«01_k».proof.Proof.PostArrays
public import proofs.«01_k».proof.Proof.PostReference
public import proofs.«01_k».proof.Proof.PostPre
public import proofs.«01_k».proof.Proof.PostSame
public import Idealize.ShloMosaic.Lib.Quiescent

@[expose] public section

noncomputable section

namespace Cert.PostClaim

open Idealize.ShloMosaic Idealize.ShloMosaic.TcCoe Idealize.SL.Sem Cert.Spec

/-- The run, stated for any programs equal to the printed ones. -/
theorem run_words (m : (ℓ : Loc Cert.PostIdeal.nD Cert.PostIdeal.τ Cert.PostIdeal.sig) → Buf (Elt Bits) ℓ)
    (ρ : Dev Cert.PostIdeal.nD → PrngReg) {d} {mn} (hd : d = Cert.PostIdeal.defs (F := Bits))
    (hm : mn = Cert.PostIdeal.main (F := Bits)) {Q}
    (hQ : ∀ r, (Cert.PostIdeal.Body.Ends m r ∧ r.2.sem = fun _ => 0) → Q r) :
    θ_run d (onTc (τ := Cert.PostIdeal.τ) mn) ⟨m, fun _ => 0, ρ⟩ Q := by
  subst hd hm
  exact (θ_run Cert.PostIdeal.defs _ _).mono hQ (Cert.PostIdeal.Body.run_main (F := Bits) m ρ)

set_option maxHeartbeats 8000000 in
set_option backward.isDefEq.respectTransparency.types false in
/-- The kernel runs, keeps its arguments and comes to rest, at the words: the run of `PostFrame.lean` at the words. -/
theorem frame_kernel : Cert.quiescent_Post := fun m ρ _ =>
  run_words m ρ Cert.PostSame.defs_eq Cert.PostSame.main_eq
    (fun _ h => ⟨fun c => Cert.PostIdeal.Body.unchanged m h.1 c, h.2⟩)

/-- The same over the extended reals. -/
theorem frame_ideal : Cert.quiescent_PostIdeal := fun m ρ _ =>
  (θ_run Cert.PostIdeal.defs _ _).mono (fun _ h => ⟨fun c => Cert.PostIdeal.Body.unchanged m h.1 c, h.2⟩)
    (Cert.PostIdeal.Body.run_main (F := Ideal) m ρ)

theorem frame_ideal_finite : Cert.quiescent_PostIdeal_pre_finite_inputs := fun m ρ _ =>
  (θ_run Cert.PostIdeal.defs _ _).mono (fun _ h => ⟨fun c => Cert.PostIdeal.Body.unchanged m h.1 c, h.2⟩)
    (Cert.PostIdeal.Body.run_main (F := Ideal) m ρ)

/-- The reference runs, keeps its arguments and comes to rest. -/
theorem frame_reference : Cert.quiescent_PostRefIdeal := fun m ρ _ =>
  (θ_run Cert.PostRefIdeal.defs _ _).mono
    (fun r h => ⟨fun c => (h c).2.2, Idealize.ShloMosaic.sem_eq_zero_of_no_sems (by decide) r.2⟩)
    (Cert.PostRefIdeal.Value.run (F := Ideal) m ρ)

theorem frame_reference_finite : Cert.quiescent_PostRefIdeal_pre_finite_inputs := fun m ρ _ =>
  (θ_run Cert.PostRefIdeal.defs _ _).mono
    (fun r h => ⟨fun c => (h c).2.2, Idealize.ShloMosaic.sem_eq_zero_of_no_sems (by decide) r.2⟩)
    (Cert.PostRefIdeal.Value.run (F := Ideal) m ρ)

/-- Token `R` is row `R % 4096` of batch `R / 4096`. -/
theorem tok_eq (R : Nat) (h : R < 32768) :
    Cert.PostRefIdeal.RefValue.tok ⟨R / 4096, by omega⟩ ⟨R % 4096, by omega⟩ = ⟨R, h⟩ :=
  Fin.ext (by show 4096 * (R / 4096) + R % 4096 = R; omega)

section
open Cert.PostIdeal Cert.PostIdeal.Arrays

variable (m : (ℓ : Loc nD τ sig) → Buf (Elt Ideal) ℓ) (c : Dev nD)

/-- Where the arguments are finite, the reference's softmax gives what the kernel's attention gives. -/
theorem soft_eq (h : Cert.Pre_PostIdeal_finite_inputs m) (R : Fin 32768) (j : Fin 1024) :
    crossSoft (Hid m c R) (Wx m c) (Wq m c) (Kv m c ⟨R.val / 4096, by omega⟩) (Wv m c) j = Out m c R j := by
  obtain ⟨h0, h1, h2, h3, h4, h5, h6, h7, h8, h9, h10, h11⟩ := Cert.PostPre.real_inputs _ _ _ _ _ _ _ _ _ _ _ _ _ _ _ _ _ _ (h c)
  exact cross_eq
    (IsReal.hid (fun _ => h0 _) (fun _ => h1 _) (fun _ => h2 _) (fun _ => h4 _) (fun _ _ => h5 _) (fun _ => h6 _)
      (fun _ _ => h7 _) (fun _ _ => h8 _) (fun _ _ => h9 _))
    (fun _ => h10 _) (fun _ _ => h11 _) (fun _ _ => h3 _) _ j

/-- The reference's row is the kernel's. -/
theorem row_eq (h : Cert.Pre_PostIdeal_finite_inputs m) (R : Fin 32768) :
    crossSoft (Cert.PostRefIdeal.RefValue.hidr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        ⟨R.val / 4096, by omega⟩ ⟨R.val % 4096, by omega⟩)
      (Cert.PostRefIdeal.RefValue.sc (m ((c : Thread nD τ).loc main_arg10))) (Cert.PostRefIdeal.RefValue.qw (m ((c : Thread nD τ).loc main_arg11)))
      (Cert.PostRefIdeal.RefValue.kv (m ((c : Thread nD τ).loc main_arg3)) ⟨R.val / 4096, by omega⟩)
      (Cert.PostRefIdeal.RefValue.ow (m ((c : Thread nD τ).loc main_arg12))) = Out m c R := by
  funext j
  refine Eq.trans ?_ (soft_eq m c h R j)
  exact congrArg (fun r => crossSoft r (Wx m c) (Wq m c) (Kv m c ⟨R.val / 4096, by omega⟩) (Wv m c) j)
    (congrArg₂ (fun s a => hid (X m c R) s a (Wn m c) (Wg m c) (Bg m c) (Wa m c) (Wb m c) (Wo m c))
      (funext fun k => congrArg (fun r => m ((c : Thread nD τ).loc main_arg1) (ix2 r k : S32768x1024.Idx)) (tok_eq R.val R.isLt))
      (funext fun k => congrArg (fun r => m ((c : Thread nD τ).loc main_arg2) (ix2 r k : S32768x1024.Idx)) (tok_eq R.val R.isLt)))

end

/-- The two float result arrays are the reference's, at finite arguments. -/
theorem algebraic : Cert.algebraic_PostIdeal_PostRefIdeal_pre_finite_inputs := by
  intro m ρ m' ρ' hpre hagree
  refine ⟨fun c => Cert.PostIdeal.Arrays.G16 m c, fun c => Cert.PostIdeal.Arrays.G17 m c, ?_, ?_⟩
  · refine (θ_run Cert.PostIdeal.defs _ _).mono (fun r h c => ⟨?_, ?_, Cert.PostIdeal.Body.unchanged m h.1 c⟩)
      (Cert.PostIdeal.Body.run_main (F := Ideal) m ρ)
    · exact (((Cert.PostIdeal.Body.dats m 0 c).toRForget_arrAt_iff rfl _ _).mp ((h.1 c).1 16)).trans
        (Cert.PostIdeal.Arrays.final16 m c)
    · exact (((Cert.PostIdeal.Body.dats m 0 c).toRForget_arrAt_iff rfl _ _).mp ((h.1 c).1 17)).trans
        (Cert.PostIdeal.Arrays.final17 m c)
  · refine (θ_run Cert.PostRefIdeal.defs _ _).mono (fun r h c => ?_) (Cert.PostRefIdeal.Value.run (F := Ideal) m' ρ')
    obtain ⟨a0, a1, a2, a3, a4, a5, a6, a7, a8, a9, a10, a11, a12, a13, a14, a15, a16, a17⟩ := hagree c
    obtain ⟨h0, h1, hk⟩ := h c
    refine ⟨h0.trans ?_, h1.trans ?_, hk⟩
    · refine (Cert.PostRefIdeal.Read.val_main_v102_eq _).trans ?_
      funext (i : Cert.PostRefIdeal.S32768x1024.Idx)
      idx_vars i
      rw [show StableHlo.launchContents m' c (Proc.tc.devRef Cert.PostRefIdeal.main_arg0) = _ from a0,
        show StableHlo.launchContents m' c (Proc.tc.devRef Cert.PostRefIdeal.main_arg1) = _ from a1,
        show StableHlo.launchContents m' c (Proc.tc.devRef Cert.PostRefIdeal.main_arg2) = _ from a2,
        show StableHlo.launchContents m' c (Proc.tc.devRef Cert.PostRefIdeal.main_arg3) = _ from a3,
        show StableHlo.launchContents m' c (Proc.tc.devRef Cert.PostRefIdeal.main_arg4) = _ from a4,
        show StableHlo.launchContents m' c (Proc.tc.devRef Cert.PostRefIdeal.main_arg5) = _ from a5,
        show StableHlo.launchContents m' c (Proc.tc.devRef Cert.PostRefIdeal.main_arg6) = _ from a6,
        show StableHlo.launchContents m' c (Proc.tc.devRef Cert.PostRefIdeal.main_arg7) = _ from a7,
        show StableHlo.launchContents m' c (Proc.tc.devRef Cert.PostRefIdeal.main_arg8) = _ from a8,
        show StableHlo.launchContents m' c (Proc.tc.devRef Cert.PostRefIdeal.main_arg9) = _ from a9,
        show StableHlo.launchContents m' c (Proc.tc.devRef Cert.PostRefIdeal.main_arg10) = _ from a10,
        show StableHlo.launchContents m' c (Proc.tc.devRef Cert.PostRefIdeal.main_arg11) = _ from a11,
        show StableHlo.launchContents m' c (Proc.tc.devRef Cert.PostRefIdeal.main_arg12) = _ from a12]
      refine (Cert.PostRefIdeal.RefValue.v102_at _ _ _ _ _ _ _ _ _ _ _ _ _ i0 i1).trans ?_
      exact congrFun (row_eq m c hpre i0) i1
    · refine (Cert.PostRefIdeal.Read.val_main_v103_eq _).trans ?_
      funext (i : Cert.PostRefIdeal.S262144x128.Idx)
      idx_vars i
      rw [show StableHlo.launchContents m' c (Proc.tc.devRef Cert.PostRefIdeal.main_arg0) = _ from a0,
        show StableHlo.launchContents m' c (Proc.tc.devRef Cert.PostRefIdeal.main_arg1) = _ from a1,
        show StableHlo.launchContents m' c (Proc.tc.devRef Cert.PostRefIdeal.main_arg2) = _ from a2,
        show StableHlo.launchContents m' c (Proc.tc.devRef Cert.PostRefIdeal.main_arg3) = _ from a3,
        show StableHlo.launchContents m' c (Proc.tc.devRef Cert.PostRefIdeal.main_arg4) = _ from a4,
        show StableHlo.launchContents m' c (Proc.tc.devRef Cert.PostRefIdeal.main_arg5) = _ from a5,
        show StableHlo.launchContents m' c (Proc.tc.devRef Cert.PostRefIdeal.main_arg6) = _ from a6,
        show StableHlo.launchContents m' c (Proc.tc.devRef Cert.PostRefIdeal.main_arg7) = _ from a7,
        show StableHlo.launchContents m' c (Proc.tc.devRef Cert.PostRefIdeal.main_arg8) = _ from a8,
        show StableHlo.launchContents m' c (Proc.tc.devRef Cert.PostRefIdeal.main_arg9) = _ from a9,
        show StableHlo.launchContents m' c (Proc.tc.devRef Cert.PostRefIdeal.main_arg10) = _ from a10,
        show StableHlo.launchContents m' c (Proc.tc.devRef Cert.PostRefIdeal.main_arg11) = _ from a11,
        show StableHlo.launchContents m' c (Proc.tc.devRef Cert.PostRefIdeal.main_arg12) = _ from a12,
        show StableHlo.launchContents m' c (Proc.tc.devRef Cert.PostRefIdeal.main_arg13) = _ from a13]
      refine (Cert.PostRefIdeal.RefValue.v103_at _ _ _ _ _ _ _ _ _ _ _ _ _ _ i0 i1).trans ?_
      exact congrArg (fun h => rms h (Cert.PostIdeal.Arrays.Wf m c) ⟨128 * (i0.val % 8) + i1.val, by omega⟩)
        (row_eq m c hpre ⟨i0.val / 8, by omega⟩)

end Cert.PostClaim

end
-- ==== Proof.MemkvValue.lean ====
/- THE MEMORY'S KEYS AND VALUES: the call's result array as one function of the arguments, a normed row of the memory
   times a column of the projection, for the kernel and for the reference. -/
module

public import proofs.«01_k».proof.Proof.Gen.MemkvIdeal.Value
public import proofs.«01_k».proof.Proof.Gen.MemkvRefIdeal.Read
public import proofs.«01_k».proof.Proof.InprojSpec
public import Idealize.ShloMosaic.Lib.StableHlo.ReadAt

@[expose] public section

noncomputable section

namespace Cert.MemkvIdeal.BlockValue

open Cert.MemkvIdeal Cert.MemkvIdeal.Gen Cert.MemkvIdeal.Value Idealize.ShloMosaic Idealize.ShloMosaic.TcCoe Cert.Spec

set_option maxRecDepth 16384

theorem hz2 : (![0, 0] : Fin 2 → Nat) = fun _ => 0 := funext fun a => by fin_cases a <;> rfl

/-- One point's output block at an index. -/
theorem out3_at (x0 : Vec Ideal S256x1024 .f32) (x1 : Vec Ideal S1x1024 .f32) (x2 : Vec Ideal S1024x1024 .bf16)
    (i : Fin 256) (j : Fin 1024) :
    out0_3 (F := Ideal) x0 x1 x2 (ix2 i j)
      = ∑ k, rms (fun k => x0 (ix2 i k)) (fun k => x1 (ix2 0 k)) k * x2 (ix2 k j) := by
  unfold out0_3
  rw [View.canon_unit_zero hz2, View.ld_unit_zero hz2, View.ld_unit_zero hz2, View.ld_unit_zero hz2]
  pointwise [k0_pay1]
  rfl

variable (m : (ℓ : Loc nD τ sig) → Buf (Elt Ideal) ℓ) (c : Dev nD)

/-- The memory's row `R`, the 256 rows of each of the 8 batches one after another. -/
abbrev X (R : Fin 2048) : Fin 1024 → EReal := fun k =>
  (m ((c : Thread nD τ).loc main_arg0) : Vec Ideal S8x256x1024 .f32) (ix3 ⟨R.val / 256, by omega⟩ ⟨R.val % 256, by omega⟩ k)
/-- The norm's scale and the projection. -/
abbrev Wn : Fin 1024 → EReal := fun k => (m ((c : Thread nD τ).loc main_arg1) : Vec Ideal S1x1024 .f32) (ix2 0 k)
abbrev Wp : Fin 1024 → Fin 1024 → EReal := fun k j =>
  (m ((c : Thread nD τ).loc main_arg2) : Vec Ideal S1x1024x1024 .f32) (ix3 0 k j)

/-- The result array. -/
def G3 : Vec Ideal S2048x1024 .bf16 := fun i => ∑ k, rms (X m c (i 0)) (Wn m c) k * Wp m c k (i 1)

theorem V0_at (R : Fin 2048) (k : Fin 1024) : (Gen.V m c main_v0 : Vec Ideal S2048x1024 .f32) (ix2 R k) = X m c R k := by
  unfold Gen.V
  after_reads_at
theorem V2_at (k : Fin 1024) : (Gen.V m c main_v2 : Vec Ideal S1x1024 .f32) (ix2 0 k) = Wn m c k := by
  unfold Gen.V
  after_reads_at
theorem V4_at (k j : Fin 1024) : (Gen.V m c main_v4 : Vec Ideal S1024x1024 .bf16) (ix2 k j) = Wp m c k j := by
  unfold Gen.V
  after_reads_at

/-- The block indices at each point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

theorem tlt (t : Fin cfg0.N) : t.val < 8 := t.isLt

/-- Row `i` of point `t`'s block of 256 rows. -/
abbrev row (t : Fin cfg0.N) (i : Fin 256) : Fin 2048 := ⟨t.val * 256 + i.val, by have := tlt t; omega⟩

/-- Where a block's index lies in its array. -/
theorem emb0 (t : Fin cfg0.N) (i : Fin 256) (k : Fin 1024) :
    ((cfg0.win 0).blk t).view.emb (ix2 i k : S256x1024.Idx) = (ix2 (row t i) k : S2048x1024.Idx) := by
  obtain ⟨e0, e1⟩ := idx0 t
  funext a; apply Fin.ext
  match a with
  | ⟨0, _⟩ => show win0_0.index t (0 : Fin 2) * 256 + 1 * i.val = t.val * 256 + i.val; omega
  | ⟨1, _⟩ => show win0_0.index t (1 : Fin 2) * 1024 + 1 * k.val = k.val; omega
theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem emb2 (t : Fin cfg0.N) (j : S1024x1024.Idx) : ((cfg0.win 2).blk t).view.emb j = j := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 1024 + 1 * (j 1).val = (j 1).val; omega
theorem emb3 (t : Fin cfg0.N) (i : Fin 256) (k : Fin 1024) :
    ((cfg0.win 3).blk t).view.emb (ix2 i k : S256x1024.Idx) = (ix2 (row t i) k : S2048x1024.Idx) := by
  obtain ⟨e0, e1⟩ := idx3 t
  funext a; apply Fin.ext
  match a with
  | ⟨0, _⟩ => show win0_3.index t (0 : Fin 2) * 256 + 1 * i.val = t.val * 256 + i.val; omega
  | ⟨1, _⟩ => show win0_3.index t (1 : Fin 2) * 1024 + 1 * k.val = k.val; omega

/-- The input blocks, by the arguments. -/
theorem blk0_eq (t : Fin cfg0.N) (i : Fin 256) :
    (fun k => (iblk m c 0 t : Vec Ideal S256x1024 .f32) (ix2 i k)) = X m c (row t i) := by
  funext k
  show Gen.V m c main_v0 (((cfg0.win 0).blk t).view.emb (ix2 i k : S256x1024.Idx)) = _
  rw [emb0]; exact V0_at m c _ k
theorem blk1_eq (t : Fin cfg0.N) : (fun k => (iblk m c 1 t : Vec Ideal S1x1024 .f32) (ix2 0 k)) = Wn m c := by
  funext k
  show Gen.V m c main_v2 (((cfg0.win 1).blk t).view.emb (ix2 0 k : S1x1024.Idx)) = _
  rw [emb1]; exact V2_at m c k
theorem blk2_eq (t : Fin cfg0.N) (k j : Fin 1024) :
    (iblk m c 2 t : Vec Ideal S1024x1024 .bf16) (ix2 k j) = Wp m c k j := by
  show Gen.V m c main_v4 (((cfg0.win 2).blk t).view.emb (ix2 k j : S1024x1024.Idx)) = _
  rw [emb2]; exact V4_at m c k j

/-- What each point writes back is its block of the result array. -/
theorem flushed3_eq (t : Fin cfg0.N) :
    (dats m 0 c).flushed 3 t = ((cfg0.win 3).blk t).view.read (Elt Ideal) (G3 m c) := by
  rw [flushed3]
  funext (j : S256x1024.Idx)
  idx_vars j
  show out0_3 (iblk m c 0 t) (iblk m c 1 t) (iblk m c 2 t) (ix2 j0 j1)
    = G3 m c (((cfg0.win 3).blk t).view.emb (ix2 j0 j1 : S256x1024.Idx))
  rw [emb3, out3_at, blk0_eq, blk1_eq]
  simp only [blk2_eq]
  rfl

/-- The blocks cover the array. -/
theorem covered3 (i : S2048x1024.Idx) :
    ∃ t : Fin cfg0.N, (cfg0.win 3).flush t = true ∧ i ∈ ((cfg0.win 3).blk t).view.set := by
  idx_vars i
  refine ⟨(⟨i0.val / 256, by show i0.val / 256 < 8; omega⟩ : Fin cfg0.N), flush0_3 _, ?_⟩
  have h := ((cfg0.win 3).blk (⟨i0.val / 256, by show i0.val / 256 < 8; omega⟩ : Fin cfg0.N)).view.emb_mem_set
    (ix2 (⟨i0.val % 256, by omega⟩ : Fin 256) i1 : S256x1024.Idx)
  rw [emb3] at h
  rwa [show row (⟨i0.val / 256, by show i0.val / 256 < 8; omega⟩ : Fin cfg0.N) ⟨i0.val % 256, by omega⟩ = i0 from
    Fin.ext (by show i0.val / 256 * 256 + i0.val % 256 = i0.val; omega)] at h

/-- The result array after the run. -/
theorem final3 : (dats m 0 c).arrAt 3 cfg0.N = G3 m c :=
  (dats m 0 c).arrAt_eq_of_cover 3 (G3 m c) (fun t _ => flushed3_eq m c t) covered3

end Cert.MemkvIdeal.BlockValue

namespace Cert.MemkvRefIdeal.RefValue

open Cert.MemkvRefIdeal Cert.MemkvRefIdeal.Read Idealize.ShloMosaic Cert.Spec

variable (x0 : (⟨S8x256x1024, .f32⟩ : BufTy).Contents (Elt Ideal)) (x1 : (⟨S1x1024, .f32⟩ : BufTy).Contents (Elt Ideal))
  (x2 : (⟨S1x1024x1024, .f32⟩ : BufTy).Contents (Elt Ideal))

theorem v13_at (b : Fin 8) (t : Fin 256) (j : Fin 1024) :
    val_main_v13 (F := Ideal) x0 x1 (ix3 b t j) = rms (fun k => x0 (ix3 b t k)) (fun k => x1 (ix2 0 k)) j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The reference's keys and values. -/
theorem v17_at (R : Fin 2048) (j : Fin 1024) :
    val_main_v17 (F := Ideal) x0 x1 x2 (ix2 R j)
      = ∑ k, rms (fun k => x0 (ix3 ⟨R.val / 256, by omega⟩ ⟨R.val % 256, by omega⟩ k)) (fun k => x1 (ix2 0 k)) k
          * x2 (ix3 0 k j) := by
  pointwise [val_main_v17, val_main_v16, val_main_v15, val_main_v14]
  simp only [v13_at]

end Cert.MemkvRefIdeal.RefValue

end
-- ==== Proof.MemkvClaim.lean ====
/- THE MEMORY CALL'S CLAIMS: the three frames, and that the kernel's result array is the reference's. -/
module

public import proofs.«01_k».proof.Defs
public import proofs.«01_k».proof.Proof.Gen.Memkv.Frame
public import proofs.«01_k».proof.Proof.Gen.MemkvRefIdeal.Run
public import proofs.«01_k».proof.Proof.MemkvValue
public import Idealize.ShloMosaic.Lib.Quiescent

@[expose] public section

noncomputable section

namespace Cert.MemkvClaim

open Idealize.ShloMosaic Idealize.ShloMosaic.TcCoe Idealize.SL.Sem

/-- The kernel runs, keeps its arguments and comes to rest, at the words. -/
theorem frame_kernel : Cert.quiescent_Memkv := fun m ρ _ => Cert.Memkv.Gen.frame m ρ

/-- The same over the extended reals. -/
theorem frame_ideal : Cert.quiescent_MemkvIdeal := fun m ρ _ => Cert.MemkvIdeal.Gen.frame m ρ

/-- The reference runs, keeps its arguments and comes to rest. -/
theorem frame_reference : Cert.quiescent_MemkvRefIdeal := fun m ρ _ =>
  (θ_run Cert.MemkvRefIdeal.defs _ _).mono
    (fun r h => ⟨fun c => (h c).2, Idealize.ShloMosaic.sem_eq_zero_of_no_sems (by decide) r.2⟩)
    (Cert.MemkvRefIdeal.Value.run (F := Ideal) m ρ)

/-- The result array is the reference's, at every argument. -/
theorem algebraic : Cert.algebraic_MemkvIdeal_MemkvRefIdeal := by
  intro m ρ m' ρ' _ hagree
  refine ⟨fun c => Cert.MemkvIdeal.BlockValue.G3 m c, ?_, ?_⟩
  · exact (θ_run Cert.MemkvIdeal.defs _ _).mono
      (fun r h c => ⟨(h c).1.trans (Cert.MemkvIdeal.BlockValue.final3 m c), (h c).2⟩)
      (Cert.MemkvIdeal.Value.run_blocks (F := Ideal) m ρ)
  · refine (θ_run Cert.MemkvRefIdeal.defs _ _).mono (fun r h c => ?_) (Cert.MemkvRefIdeal.Value.run (F := Ideal) m' ρ')
    obtain ⟨a0, a1, a2⟩ := hagree c
    obtain ⟨h0, hk⟩ := h c
    refine ⟨h0.trans ?_, hk⟩
    refine (Cert.MemkvRefIdeal.Read.val_main_v17_eq _ _ _).trans ?_
    funext (i : Cert.MemkvRefIdeal.S2048x1024.Idx)
    idx_vars i
    rw [a0, a1, a2]
    exact Cert.MemkvRefIdeal.RefValue.v17_at _ _ _ i0 i1

end Cert.MemkvClaim

end
-- ==== Proof.CombineValue.lean ====
/- THE COMBINATION: the call's result array as one function of the arguments, for the kernel and for the reference. A token's
   row is the residual plus the two expert outputs, each times its weight, normed. An expert output of 1024 columns lies in
   eight rows of 128, those of the second slot 262144 rows further down. -/
module

public import proofs.«01_k».proof.Proof.Gen.CombineIdeal.Value
public import proofs.«01_k».proof.Proof.Gen.CombineRefIdeal.Read
public import proofs.«01_k».proof.Proof.InprojSpec
public import Idealize.ShloMosaic.Lib.VecWindow
public import Idealize.ShloMosaic.Lib.Pipeline.ValueKit.Tiles
public import Idealize.ShloMosaic.Lib.StableHlo.ReadAt

@[expose] public section

noncomputable section

namespace Cert.CombineIdeal.BlockValue

open Cert.CombineIdeal Cert.CombineIdeal.Gen Cert.CombineIdeal.Value Idealize.ShloMosaic Idealize.ShloMosaic.TcCoe Cert.Spec

set_option maxRecDepth 16384

theorem pay1_at (v21 v24 : FVec Ideal S512x1024 .f32) (v26 : Vec Ideal S512x1024 .f32) (v28 : Vec Ideal S1x1024 .f32)
    (i : Fin 512) (j : Fin 1024) :
    k0_pay1 (F := Ideal) v21 v24 v26 v28 (ix2 i j)
      = rms (fun k => v26 (ix2 i k) + (v21 (ix2 i k) + v24 (ix2 i k))) (fun k => v28 (ix2 0 k)) j := by
  pointwise [k0_pay1]
  rfl

/-- Eight pieces of 128 columns side by side, read at column `j`. -/
theorem ladder (j : Fin 1024) (C : Fin 8 → Fin 128 → EReal) :
    (if h : j.val < 128 then C 0 ⟨j.val, h⟩
      else if h : j.val - 128 < 128 then C 1 ⟨j.val - 128, h⟩
      else if h : j.val - 128 - 128 < 128 then C 2 ⟨j.val - 128 - 128, h⟩
      else if h : j.val - 128 - 128 - 128 < 128 then C 3 ⟨j.val - 128 - 128 - 128, h⟩
      else if h : j.val - 128 - 128 - 128 - 128 < 128 then C 4 ⟨j.val - 128 - 128 - 128 - 128, h⟩
      else if h : j.val - 128 - 128 - 128 - 128 - 128 < 128 then C 5 ⟨j.val - 128 - 128 - 128 - 128 - 128, h⟩
      else if h : j.val - 128 - 128 - 128 - 128 - 128 - 128 < 128 then C 6 ⟨j.val - 128 - 128 - 128 - 128 - 128 - 128, h⟩
      else C 7 ⟨j.val - 128 - 128 - 128 - 128 - 128 - 128 - 128, by omega⟩)
      = C ⟨j.val / 128, by omega⟩ ⟨j.val % 128, by omega⟩ := by
  split_ifs
  all_goals exact congrArg₂ C (Fin.ext (by simp; omega)) (Fin.ext (by simp; try omega))

section

variable (v0 v1 v2 v3 v4 v5 v6 v7 v8 : Vec Ideal S512x128 .f32) (i : Fin 512) (j : Fin 1024)

theorem pay2_at : k0_pay2 (F := Ideal) v0 v1 v2 v3 v4 v5 v6 v7 v8 (ix2 i j)
    = v0 (ix2 i 2) * (![v1, v2, v3, v4, v5, v6, v7, v8] ⟨j.val / 128, by omega⟩) (ix2 i ⟨j.val % 128, by omega⟩) := by
  pointwise [k0_pay2]
  exact congrArg (v0 _ * ·) (ladder j (fun g q => (![v1, v2, v3, v4, v5, v6, v7, v8] g) (ix2 i q)))
theorem pay3_at : k0_pay3 (F := Ideal) v0 v1 v2 v3 v4 v5 v6 v7 v8 (ix2 i j)
    = v0 (ix2 i 3) * (![v1, v2, v3, v4, v5, v6, v7, v8] ⟨j.val / 128, by omega⟩) (ix2 i ⟨j.val % 128, by omega⟩) := by
  pointwise [k0_pay3]
  exact congrArg (v0 _ * ·) (ladder j (fun g q => (![v1, v2, v3, v4, v5, v6, v7, v8] g) (ix2 i q)))

end

/-- Every eighth row of a block, from row `g`. -/
theorem ld_strided (a : Memref sig .tc .vmem S4096x128 .f32) (ha : a.IsWhole) (x : Vec Ideal S4096x128 .f32) (g : ℕ) (hg : g < 8)
    (inb : ∀ e, S512x128.size e = 0 ∨ (![g, 0] : Fin 2 → Nat) e + (![8, 1] : Fin 2 → Nat) e * (S512x128.size e - 1) < S4096x128.size e)
    (i : Fin 512) (q : Fin 128) :
    a.view.readAt (Elt Ideal) (⟨![g, 0], S512x128.size, ![8, 1], inb⟩ : LoadRect S4096x128) (ha.unread x) (ix2 i q : S512x128.Idx)
      = x (ix2 ⟨i.val * 8 + g, by omega⟩ q) := by
  rw [View.readAt_apply, ha.read_unread]
  congr 1
  funext e; apply Fin.ext
  match e with
  | ⟨0, _⟩ => show g + 8 * i.val = i.val * 8 + g; omega
  | ⟨1, _⟩ => show 0 + 1 * q.val = q.val; omega

/-- The eight loads of a block, by which one it is. -/
theorem ld_pieces (a : Memref sig .tc .vmem S4096x128 .f32) (ha : a.IsWhole) (x : Vec Ideal S4096x128 .f32) (g : Fin 8)
    (i : Fin 512) (q : Fin 128) :
    (![a.view.readAt (Elt Ideal) (⟨![0, 0], S512x128.size, ![8, 1], inb_S4096x128_S512x128_0_0_s_8_1⟩ : LoadRect S4096x128) (ha.unread x),
      a.view.readAt (Elt Ideal) (⟨![1, 0], S512x128.size, ![8, 1], inb_S4096x128_S512x128_1_0_s_8_1⟩ : LoadRect S4096x128) (ha.unread x),
      a.view.readAt (Elt Ideal) (⟨![2, 0], S512x128.size, ![8, 1], inb_S4096x128_S512x128_2_0_s_8_1⟩ : LoadRect S4096x128) (ha.unread x),
      a.view.readAt (Elt Ideal) (⟨![3, 0], S512x128.size, ![8, 1], inb_S4096x128_S512x128_3_0_s_8_1⟩ : LoadRect S4096x128) (ha.unread x),
      a.view.readAt (Elt Ideal) (⟨![4, 0], S512x128.size, ![8, 1], inb_S4096x128_S512x128_4_0_s_8_1⟩ : LoadRect S4096x128) (ha.unread x),
      a.view.readAt (Elt Ideal) (⟨![5, 0], S512x128.size, ![8, 1], inb_S4096x128_S512x128_5_0_s_8_1⟩ : LoadRect S4096x128) (ha.unread x),
      a.view.readAt (Elt Ideal) (⟨![6, 0], S512x128.size, ![8, 1], inb_S4096x128_S512x128_6_0_s_8_1⟩ : LoadRect S4096x128) (ha.unread x),
      a.view.readAt (Elt Ideal) (⟨![7, 0], S512x128.size, ![8, 1], inb_S4096x128_S512x128_7_0_s_8_1⟩ : LoadRect S4096x128) (ha.unread x)]
      g : Vec Ideal S512x128 .f32) (ix2 i q)
      = x (ix2 ⟨i.val * 8 + g.val, by omega⟩ q) := by
  match g with
  | ⟨0, _⟩ => exact ld_strided a ha x 0 (by omega) _ i q
  | ⟨1, _⟩ => exact ld_strided a ha x 1 (by omega) _ i q
  | ⟨2, _⟩ => exact ld_strided a ha x 2 (by omega) _ i q
  | ⟨3, _⟩ => exact ld_strided a ha x 3 (by omega) _ i q
  | ⟨4, _⟩ => exact ld_strided a ha x 4 (by omega) _ i q
  | ⟨5, _⟩ => exact ld_strided a ha x 5 (by omega) _ i q
  | ⟨6, _⟩ => exact ld_strided a ha x 6 (by omega) _ i q
  | ⟨7, _⟩ => exact ld_strided a ha x 7 (by omega) _ i q

/-- A whole block's load, at an index. -/
theorem ld_whole {r s : ℕ} (a : Memref sig .tc .vmem ⟨2, ![r, s]⟩ .f32) (ha : a.IsWhole) (x : Vec Ideal ⟨2, ![r, s]⟩ .f32)
    (inb : ∀ e, (![0, 0] : Fin 2 → ℕ) e + (⟨2, ![r, s]⟩ : Shape).size e ≤ (⟨2, ![r, s]⟩ : Shape).size e) :
    a.view.readAt (Elt Ideal) (Rect.unit (s := ⟨2, ![r, s]⟩) ![0, 0] (⟨2, ![r, s]⟩ : Shape).size inb).toLoadRect (ha.unread x) = x := by
  funext y
  rw [View.readAt_apply, ha.read_unread]
  congr 1
  funext e; apply Fin.ext
  match e with
  | ⟨0, _⟩ => show 0 + 1 * (y 0).val = (y 0).val; omega
  | ⟨1, _⟩ => show 0 + 1 * (y 1).val = (y 1).val; omega

/-- What a point leaves in the result's block, by its input blocks. -/
theorem out5_at (c : Dev nD) (p : grid0.Coords) (arg1 : Memref sig .tc .vmem S512x1024 .f32) (harg1 : arg1.IsWhole)
    (arg2 : Memref sig .tc .vmem S4096x128 .f32) (harg2 : arg2.IsWhole) (arg3 : Memref sig .tc .vmem S4096x128 .f32) (harg3 : arg3.IsWhole)
    (arg4 : Memref sig .tc .vmem S512x128 .f32) (harg4 : arg4.IsWhole) (arg5 : Memref sig .tc .vmem S1x1024 .f32) (harg5 : arg5.IsWhole)
    (arg6 : Memref sig .tc .vmem S512x1024 .f32) (harg6 : arg6.IsWhole)
    (x0 : Vec Ideal S512x1024 .f32) (x1 x2 : Vec Ideal S4096x128 .f32) (x3 : Vec Ideal S512x128 .f32) (x4 : Vec Ideal S1x1024 .f32)
    (i : Fin 512) (j : Fin 1024) :
    out0_A_5 (F := Ideal) c p arg1 harg1 arg2 harg2 arg3 harg3 arg4 harg4 arg5 harg5 arg6 harg6 x0 x1 x2 x3 x4 (ix2 i j)
      = rms (fun k => x0 (ix2 i k) + (x3 (ix2 i 2) * x1 (ix2 ⟨i.val * 8 + k.val / 128, by omega⟩ ⟨k.val % 128, by omega⟩)
          + x3 (ix2 i 3) * x2 (ix2 ⟨i.val * 8 + k.val / 128, by omega⟩ ⟨k.val % 128, by omega⟩)))
          (fun k => x4 (ix2 0 k)) j := by
  unfold out0_A_5 kernelRun0_A
  have h := View.read_writes_cons_emb (v := VO0_5) (f := VO0_5.junk) (Val := Elt Ideal)
    (Rect.unit (s := S512x1024) ![0, 0] S512x1024.size inb_S512x1024_S512x1024_0_0)
    (k0_pay1 (F := Ideal) (k0_pay2
      (arg4.view.readAt (Elt Ideal) (Rect.unit (s := S512x128) ![0, 0] S512x128.size inb_S512x128_S512x128_0_0).toLoadRect (harg4.unread x3))
      (arg2.view.readAt (Elt Ideal) (⟨![0, 0], S512x128.size, ![8, 1], inb_S4096x128_S512x128_0_0_s_8_1⟩ : LoadRect S4096x128) (harg2.unread x1))
      (arg2.view.readAt (Elt Ideal) (⟨![1, 0], S512x128.size, ![8, 1], inb_S4096x128_S512x128_1_0_s_8_1⟩ : LoadRect S4096x128) (harg2.unread x1))
      (arg2.view.readAt (Elt Ideal) (⟨![2, 0], S512x128.size, ![8, 1], inb_S4096x128_S512x128_2_0_s_8_1⟩ : LoadRect S4096x128) (harg2.unread x1))
      (arg2.view.readAt (Elt Ideal) (⟨![3, 0], S512x128.size, ![8, 1], inb_S4096x128_S512x128_3_0_s_8_1⟩ : LoadRect S4096x128) (harg2.unread x1))
      (arg2.view.readAt (Elt Ideal) (⟨![4, 0], S512x128.size, ![8, 1], inb_S4096x128_S512x128_4_0_s_8_1⟩ : LoadRect S4096x128) (harg2.unread x1))
      (arg2.view.readAt (Elt Ideal) (⟨![5, 0], S512x128.size, ![8, 1], inb_S4096x128_S512x128_5_0_s_8_1⟩ : LoadRect S4096x128) (harg2.unread x1))
      (arg2.view.readAt (Elt Ideal) (⟨![6, 0], S512x128.size, ![8, 1], inb_S4096x128_S512x128_6_0_s_8_1⟩ : LoadRect S4096x128) (harg2.unread x1))
      (arg2.view.readAt (Elt Ideal) (⟨![7, 0], S512x128.size, ![8, 1], inb_S4096x128_S512x128_7_0_s_8_1⟩ : LoadRect S4096x128) (harg2.unread x1)))
      (k0_pay3
      (arg4.view.readAt (Elt Ideal) (Rect.unit (s := S512x128) ![0, 0] S512x128.size inb_S512x128_S512x128_0_0).toLoadRect (harg4.unread x3))
      (arg3.view.readAt (Elt Ideal) (⟨![0, 0], S512x128.size, ![8, 1], inb_S4096x128_S512x128_0_0_s_8_1⟩ : LoadRect S4096x128) (harg3.unread x2))
      (arg3.view.readAt (Elt Ideal) (⟨![1, 0], S512x128.size, ![8, 1], inb_S4096x128_S512x128_1_0_s_8_1⟩ : LoadRect S4096x128) (harg3.unread x2))
      (arg3.view.readAt (Elt Ideal) (⟨![2, 0], S512x128.size, ![8, 1], inb_S4096x128_S512x128_2_0_s_8_1⟩ : LoadRect S4096x128) (harg3.unread x2))
      (arg3.view.readAt (Elt Ideal) (⟨![3, 0], S512x128.size, ![8, 1], inb_S4096x128_S512x128_3_0_s_8_1⟩ : LoadRect S4096x128) (harg3.unread x2))
      (arg3.view.readAt (Elt Ideal) (⟨![4, 0], S512x128.size, ![8, 1], inb_S4096x128_S512x128_4_0_s_8_1⟩ : LoadRect S4096x128) (harg3.unread x2))
      (arg3.view.readAt (Elt Ideal) (⟨![5, 0], S512x128.size, ![8, 1], inb_S4096x128_S512x128_5_0_s_8_1⟩ : LoadRect S4096x128) (harg3.unread x2))
      (arg3.view.readAt (Elt Ideal) (⟨![6, 0], S512x128.size, ![8, 1], inb_S4096x128_S512x128_6_0_s_8_1⟩ : LoadRect S4096x128) (harg3.unread x2))
      (arg3.view.readAt (Elt Ideal) (⟨![7, 0], S512x128.size, ![8, 1], inb_S4096x128_S512x128_7_0_s_8_1⟩ : LoadRect S4096x128) (harg3.unread x2)))
      (arg1.view.readAt (Elt Ideal) (Rect.unit (s := S512x1024) ![0, 0] S512x1024.size inb_S512x1024_S512x1024_0_0).toLoadRect (harg1.unread x0))
      (arg5.view.readAt (Elt Ideal) (Rect.unit (s := S1x1024) ![0, 0] S1x1024.size inb_S1x1024_S1x1024_0_0).toLoadRect (harg5.unread x4)))
    [] (ix2 i j : S512x1024.Idx)
  rw [Rect.emb_unit_full] at h
  refine h.trans ?_
  refine (pay1_at _ _ _ _ i j).trans ?_
  rw [ld_whole arg1 harg1, ld_whole arg5 harg5]
  refine congrArg (fun f => rms f (fun k => x4 (ix2 0 k)) j) (funext fun k => ?_)
  rw [pay2_at, pay3_at, ld_whole arg4 harg4]
  exact congrArg₂ (fun a b => x0 (ix2 i k) + (x3 (ix2 i 2) * a + x3 (ix2 i 3) * b))
    (ld_pieces arg2 harg2 x1 ⟨k.val / 128, by omega⟩ i ⟨k.val % 128, by omega⟩)
    (ld_pieces arg3 harg3 x2 ⟨k.val / 128, by omega⟩ i ⟨k.val % 128, by omega⟩)

variable (m : (ℓ : Loc nD τ sig) → Buf (Elt Ideal) ℓ) (c : Dev nD)

/-- The arguments: the residual, the experts' outputs, the routing's record of a token, the norm's scale. -/
abbrev H : Vec Ideal S32768x1024 .f32 := m ((c : Thread nD τ).loc main_arg0)
abbrev Y : Vec Ideal S528384x128 .f32 := m ((c : Thread nD τ).loc main_arg1)
abbrev Rt : Vec Ideal S32768x128 .f32 := m ((c : Thread nD τ).loc main_arg2)
abbrev Wn : Vec Ideal S1024 .f32 := m ((c : Thread nD τ).loc main_arg3)

/-- A token's row before the norm. -/
abbrev tok (R : Fin 32768) : Fin 1024 → EReal := fun k =>
  H m c (ix2 R k) + (Rt m c (ix2 R 2) * Y m c (ix2 ⟨R.val * 8 + k.val / 128, by omega⟩ ⟨k.val % 128, by omega⟩)
    + Rt m c (ix2 R 3) * Y m c (ix2 ⟨262144 + (R.val * 8 + k.val / 128), by omega⟩ ⟨k.val % 128, by omega⟩))

/-- The result array. -/
def G5 : Vec Ideal S32768x1024 .f32 := fun i => rms (tok m c (i 0)) (fun k => Wn m c (ix1 k)) (i 1)

theorem V0_at (k : Fin 1024) : (Gen.V m c main_v0 : Vec Ideal S1x1024 .f32) (ix2 0 k) = Wn m c (ix1 k) := by
  unfold Gen.V
  after_reads_at

/-- The block indices at each point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val + 64 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem tlt (t : Fin cfg0.N) : t.val < 64 := t.isLt

/-- Row `i` of point `t`'s block of 512 rows. -/
abbrev row (t : Fin cfg0.N) (i : Fin 512) : Fin 32768 := ⟨t.val * 512 + i.val, by have := tlt t; omega⟩

/-- Where a block's index lies in its array. -/
theorem emb0 (t : Fin cfg0.N) (i : Fin 512) (k : Fin 1024) :
    ((cfg0.win 0).blk t).view.emb (ix2 i k : S512x1024.Idx) = (ix2 (row t i) k : S32768x1024.Idx) := by
  obtain ⟨e0, e1⟩ := idx0 t
  funext a; apply Fin.ext
  match a with
  | ⟨0, _⟩ => show win0_0.index t (0 : Fin 2) * 512 + 1 * i.val = t.val * 512 + i.val; omega
  | ⟨1, _⟩ => show win0_0.index t (1 : Fin 2) * 1024 + 1 * k.val = k.val; omega
theorem emb1 (t : Fin cfg0.N) (i : Fin 4096) (k : Fin 128) :
    ((cfg0.win 1).blk t).view.emb (ix2 i k : S4096x128.Idx)
      = (ix2 ⟨t.val * 4096 + i.val, by have := tlt t; omega⟩ k : S528384x128.Idx) := by
  obtain ⟨e0, e1⟩ := idx1 t
  funext a; apply Fin.ext
  match a with
  | ⟨0, _⟩ => show win0_1.index t (0 : Fin 2) * 4096 + 1 * i.val = t.val * 4096 + i.val; omega
  | ⟨1, _⟩ => show win0_1.index t (1 : Fin 2) * 128 + 1 * k.val = k.val; omega
theorem emb2 (t : Fin cfg0.N) (i : Fin 4096) (k : Fin 128) :
    ((cfg0.win 2).blk t).view.emb (ix2 i k : S4096x128.Idx)
      = (ix2 ⟨(t.val + 64) * 4096 + i.val, by have := tlt t; omega⟩ k : S528384x128.Idx) := by
  obtain ⟨e0, e1⟩ := idx2 t
  funext a; apply Fin.ext
  match a with
  | ⟨0, _⟩ => show win0_2.index t (0 : Fin 2) * 4096 + 1 * i.val = (t.val + 64) * 4096 + i.val; omega
  | ⟨1, _⟩ => show win0_2.index t (1 : Fin 2) * 128 + 1 * k.val = k.val; omega
theorem emb3 (t : Fin cfg0.N) (i : Fin 512) (k : Fin 128) :
    ((cfg0.win 3).blk t).view.emb (ix2 i k : S512x128.Idx) = (ix2 (row t i) k : S32768x128.Idx) := by
  obtain ⟨e0, e1⟩ := idx3 t
  funext a; apply Fin.ext
  match a with
  | ⟨0, _⟩ => show win0_3.index t (0 : Fin 2) * 512 + 1 * i.val = t.val * 512 + i.val; omega
  | ⟨1, _⟩ => show win0_3.index t (1 : Fin 2) * 128 + 1 * k.val = k.val; omega
theorem emb4 (t : Fin cfg0.N) (j : S1x1024.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega
theorem emb5 (t : Fin cfg0.N) (i : Fin 512) (k : Fin 1024) :
    ((cfg0.win 5).blk t).view.emb (ix2 i k : S512x1024.Idx) = (ix2 (row t i) k : S32768x1024.Idx) := by
  obtain ⟨e0, e1⟩ := idx5 t
  funext a; apply Fin.ext
  match a with
  | ⟨0, _⟩ => show win0_5.index t (0 : Fin 2) * 512 + 1 * i.val = t.val * 512 + i.val; omega
  | ⟨1, _⟩ => show win0_5.index t (1 : Fin 2) * 1024 + 1 * k.val = k.val; omega

/-- The input blocks, by the arguments. -/
theorem blk0_eq (t : Fin cfg0.N) (i : Fin 512) (k : Fin 1024) :
    (iblk m c 0 t : Vec Ideal S512x1024 .f32) (ix2 i k) = H m c (ix2 (row t i) k) := by
  show Gen.V m c main_arg0 (((cfg0.win 0).blk t).view.emb (ix2 i k : S512x1024.Idx)) = _
  rw [emb0, Gen.V_main_arg0]
theorem blk1_eq (t : Fin cfg0.N) (i : Fin 512) (k : Fin 1024) :
    (iblk m c 1 t : Vec Ideal S4096x128 .f32) (ix2 ⟨i.val * 8 + k.val / 128, by omega⟩ ⟨k.val % 128, by omega⟩)
      = Y m c (ix2 ⟨(row t i).val * 8 + k.val / 128, by have := tlt t; simp only; omega⟩ ⟨k.val % 128, by omega⟩) := by
  show Gen.V m c main_arg1 (((cfg0.win 1).blk t).view.emb
    (ix2 ⟨i.val * 8 + k.val / 128, by omega⟩ ⟨k.val % 128, by omega⟩ : S4096x128.Idx)) = _
  rw [emb1, Gen.V_main_arg1]
  exact congrArg (fun r => Y m c (ix2 r _)) (Fin.ext (by simp only; omega))
theorem blk2_eq (t : Fin cfg0.N) (i : Fin 512) (k : Fin 1024) :
    (iblk m c 2 t : Vec Ideal S4096x128 .f32) (ix2 ⟨i.val * 8 + k.val / 128, by omega⟩ ⟨k.val % 128, by omega⟩)
      = Y m c (ix2 ⟨262144 + ((row t i).val * 8 + k.val / 128), by have := tlt t; simp only; omega⟩ ⟨k.val % 128, by omega⟩) := by
  show Gen.V m c main_arg1 (((cfg0.win 2).blk t).view.emb
    (ix2 ⟨i.val * 8 + k.val / 128, by omega⟩ ⟨k.val % 128, by omega⟩ : S4096x128.Idx)) = _
  rw [emb2, Gen.V_main_arg1]
  exact congrArg (fun r => Y m c (ix2 r _)) (Fin.ext (by simp only; omega))
theorem blk3_eq (t : Fin cfg0.N) (i : Fin 512) (k : Fin 128) :
    (iblk m c 3 t : Vec Ideal S512x128 .f32) (ix2 i k) = Rt m c (ix2 (row t i) k) := by
  show Gen.V m c main_arg2 (((cfg0.win 3).blk t).view.emb (ix2 i k : S512x128.Idx)) = _
  rw [emb3, Gen.V_main_arg2]
theorem blk4_eq (t : Fin cfg0.N) (k : Fin 1024) :
    (iblk m c 4 t : Vec Ideal S1x1024 .f32) (ix2 0 k) = Wn m c (ix1 k) := by
  show Gen.V m c main_v0 (((cfg0.win 4).blk t).view.emb (ix2 0 k : S1x1024.Idx)) = _
  rw [emb4]; exact V0_at m c k

/-- What each point writes back is its block of the result array. -/
theorem flushed5_eq (t : Fin cfg0.N) :
    (dats m 0 c).flushed 5 t = ((cfg0.win 5).blk t).view.read (Elt Ideal) (G5 m c) := by
  rw [flushed5_A]
  funext (j : S512x1024.Idx)
  idx_vars j
  refine (out5_at c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t) j0 j1).trans ?_
  show _ = G5 m c (((cfg0.win 5).blk t).view.emb (ix2 j0 j1 : S512x1024.Idx))
  rw [emb5]
  simp only [blk0_eq, blk1_eq, blk2_eq, blk3_eq, blk4_eq]
  rfl

/-- The blocks cover the array. -/
theorem covered5 (i : S32768x1024.Idx) :
    ∃ t : Fin cfg0.N, (cfg0.win 5).flush t = true ∧ i ∈ ((cfg0.win 5).blk t).view.set := by
  idx_vars i
  refine ⟨(⟨i0.val / 512, by show i0.val / 512 < 64; omega⟩ : Fin cfg0.N), flush0_5 _, ?_⟩
  have h := ((cfg0.win 5).blk (⟨i0.val / 512, by show i0.val / 512 < 64; omega⟩ : Fin cfg0.N)).view.emb_mem_set
    (ix2 (⟨i0.val % 512, by omega⟩ : Fin 512) i1 : S512x1024.Idx)
  rw [emb5] at h
  rwa [show row (⟨i0.val / 512, by show i0.val / 512 < 64; omega⟩ : Fin cfg0.N) ⟨i0.val % 512, by omega⟩ = i0 from
    Fin.ext (by show i0.val / 512 * 512 + i0.val % 512 = i0.val; omega)] at h

/-- The result array after the run. -/
theorem final5 : (dats m 0 c).arrAt 5 cfg0.N = G5 m c :=
  (dats m 0 c).arrAt_eq_of_cover 5 (G5 m c) (fun t _ => flushed5_eq m c t) covered5

end Cert.CombineIdeal.BlockValue

namespace Cert.CombineRefIdeal.RefValue

open Cert.CombineRefIdeal Cert.CombineRefIdeal.Read Idealize.ShloMosaic Cert.Spec

variable (x0 : (⟨S32768x1024, .f32⟩ : BufTy).Contents (Elt Ideal)) (x1 : (⟨S528384x128, .f32⟩ : BufTy).Contents (Elt Ideal))
  (x2 : (⟨S32768x128, .f32⟩ : BufTy).Contents (Elt Ideal)) (x3 : (⟨S1024, .f32⟩ : BufTy).Contents (Elt Ideal))

theorem v11_at (R : Fin 32768) (j : Fin 1024) :
    val_main_v11 (F := Ideal) x0 x1 x2 (ix2 R j)
      = x0 (ix2 R j) + (x2 (ix2 R 2) * x1 (ix2 ⟨R.val * 8 + j.val / 128, by omega⟩ ⟨j.val % 128, by omega⟩)
          + x2 (ix2 R 3) * x1 (ix2 ⟨262144 + (R.val * 8 + j.val / 128), by omega⟩ ⟨j.val % 128, by omega⟩)) := by
  pointwise [val_main_v11, val_main_v10, val_main_v9, val_main_v8, val_main_v7, val_main_v6, val_main_v5, val_main_v4,
    val_main_v3, val_main_v2, val_main_v1, val_main_v0]

/-- The reference's result. -/
theorem v24_at (R : Fin 32768) (j : Fin 1024) :
    val_main_v24 (F := Ideal) x0 x1 x2 x3 (ix2 R j)
      = rms (fun k => x0 (ix2 R k) + (x2 (ix2 R 2) * x1 (ix2 ⟨R.val * 8 + k.val / 128, by omega⟩ ⟨k.val % 128, by omega⟩)
          + x2 (ix2 R 3) * x1 (ix2 ⟨262144 + (R.val * 8 + k.val / 128), by omega⟩ ⟨k.val % 128, by omega⟩)))
          (fun k => x3 (ix1 k)) j := by
  pointwise [val_main_v24, val_main_v23, val_main_v22, val_main_v21, val_main_v20, val_main_v19, val_main_v18, val_main_v17,
    val_main_v16, val_main_v15, val_main_v14, val_main_v13, val_main_v12, val_main_cst, val_main_cst_0, val_main_cst_1]
  simp only [v11_at]
  rfl

end Cert.CombineRefIdeal.RefValue

end
-- ==== Proof.CombineClaim.lean ====
/- THE COMBINATION'S CLAIMS: the three frames, and that the kernel's result array is the reference's. -/
module

public import proofs.«01_k».proof.Defs
public import proofs.«01_k».proof.Proof.Gen.Combine.Frame
public import proofs.«01_k».proof.Proof.Gen.CombineRefIdeal.Run
public import proofs.«01_k».proof.Proof.CombineValue
public import Idealize.ShloMosaic.Lib.Quiescent

@[expose] public section

noncomputable section

namespace Cert.CombineClaim

open Idealize.ShloMosaic Idealize.ShloMosaic.TcCoe Idealize.SL.Sem

/-- The kernel runs, keeps its arguments and comes to rest, at the words. -/
theorem frame_kernel : Cert.quiescent_Combine := fun m ρ _ => Cert.Combine.Gen.frame m ρ

/-- The same over the extended reals. -/
theorem frame_ideal : Cert.quiescent_CombineIdeal := fun m ρ _ => Cert.CombineIdeal.Gen.frame m ρ

/-- The reference runs, keeps its arguments and comes to rest. -/
theorem frame_reference : Cert.quiescent_CombineRefIdeal := fun m ρ _ =>
  (θ_run Cert.CombineRefIdeal.defs _ _).mono
    (fun r h => ⟨fun c => (h c).2, Idealize.ShloMosaic.sem_eq_zero_of_no_sems (by decide) r.2⟩)
    (Cert.CombineRefIdeal.Value.run (F := Ideal) m ρ)

/-- The result array is the reference's, at every argument. -/
theorem algebraic : Cert.algebraic_CombineIdeal_CombineRefIdeal := by
  intro m ρ m' ρ' _ hagree
  refine ⟨fun c => Cert.CombineIdeal.BlockValue.G5 m c, ?_, ?_⟩
  · exact (θ_run Cert.CombineIdeal.defs _ _).mono
      (fun r h c => ⟨(h c).1.trans (Cert.CombineIdeal.BlockValue.final5 m c), (h c).2⟩)
      (Cert.CombineIdeal.Value.run_blocks (F := Ideal) m ρ)
  · refine (θ_run Cert.CombineRefIdeal.defs _ _).mono (fun r h c => ?_) (Cert.CombineRefIdeal.Value.run (F := Ideal) m' ρ')
    obtain ⟨a0, a1, a2, a3⟩ := hagree c
    obtain ⟨h0, hk⟩ := h c
    refine ⟨h0.trans ?_, hk⟩
    refine (Cert.CombineRefIdeal.Read.val_main_v24_eq _ _ _ _).trans ?_
    funext (i : Cert.CombineRefIdeal.S32768x1024.Idx)
    idx_vars i
    rw [a0, a1, a2, a3]
    exact Cert.CombineRefIdeal.RefValue.v24_at _ _ _ _ i0 i1

end Cert.CombineClaim

end
-- ==== Proof.lean ====
module

public import proofs.«01_k».proof.Defs
public import proofs.«01_k».proof.Proof.InprojClaim
public import proofs.«01_k».proof.Proof.PostClaim
public import proofs.«01_k».proof.Proof.MemkvClaim
public import proofs.«01_k».proof.Proof.CombineClaim

@[expose] public section

noncomputable section

namespace Cert.Proof

theorem claim : Cert.Claim :=
  ⟨Cert.Inproj.Gen.facts, Cert.InprojIdeal.Gen.facts, Cert.InprojRefIdeal.Gen.facts,
   Cert.Post.Gen.facts, Cert.PostIdeal.Gen.facts, Cert.PostRefIdeal.Gen.facts,
   Cert.Memkv.Gen.facts, Cert.MemkvIdeal.Gen.facts, Cert.MemkvRefIdeal.Gen.facts,
   Cert.Combine.Gen.facts, Cert.CombineIdeal.Gen.facts, Cert.CombineRefIdeal.Gen.facts, Cert.Pre_finite_inputs.Gen.facts,
   Cert.InprojClaim.frame_kernel, Cert.InprojClaim.frame_ideal, Cert.InprojClaim.frame_reference,
   Cert.PostClaim.frame_kernel, Cert.PostClaim.frame_ideal, Cert.PostClaim.frame_ideal_finite,
   Cert.PostClaim.frame_reference, Cert.PostClaim.frame_reference_finite,
   Cert.MemkvClaim.frame_kernel, Cert.MemkvClaim.frame_ideal, Cert.MemkvClaim.frame_reference,
   Cert.CombineClaim.frame_kernel, Cert.CombineClaim.frame_ideal, Cert.CombineClaim.frame_reference,
   trivial, Cert.InprojClaim.algebraic, trivial, Cert.PostClaim.algebraic,
   trivial, Cert.MemkvClaim.algebraic, trivial, Cert.CombineClaim.algebraic⟩

end Cert.Proof

end
